-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x18944 : Shape := ⟨3, ![3, 640, 18944]⟩
abbrev S3x640x3584 : Shape := ⟨3, ![3, 640, 3584]⟩
abbrev S3x640 : Shape := ⟨2, ![3, 640]⟩
abbrev S1792x18944 : Shape := ⟨2, ![1792, 18944]⟩
abbrev S28x18944 : Shape := ⟨2, ![28, 18944]⟩
abbrev S3584x64 : Shape := ⟨2, ![3584, 64]⟩
abbrev S64x18944 : Shape := ⟨2, ![64, 18944]⟩
abbrev S18944 : Shape := ⟨1, ![18944]⟩
abbrev S1920x18944 : Shape := ⟨2, ![1920, 18944]⟩
abbrev S1920x3584 : Shape := ⟨2, ![1920, 3584]⟩
abbrev S1920x1 : Shape := ⟨2, ![1920, 1]⟩
abbrev S1x1920 : Shape := ⟨2, ![1, 1920]⟩
abbrev S64x3584 : Shape := ⟨2, ![64, 3584]⟩
abbrev S1x18944 : Shape := ⟨2, ![1, 18944]⟩
abbrev S1920x256 : Shape := ⟨2, ![1920, 256]⟩
abbrev S1792x256 : Shape := ⟨2, ![1792, 256]⟩
abbrev S28x256 : Shape := ⟨2, ![28, 256]⟩
abbrev S64x256 : Shape := ⟨2, ![64, 256]⟩
abbrev S1x256 : Shape := ⟨2, ![1, 256]⟩
abbrev S3584x256 : Shape := ⟨2, ![3584, 256]⟩
abbrev S64x1920 : Shape := ⟨2, ![64, 1920]⟩
abbrev S_ : Shape := ⟨0, ![]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S2x256 : Shape := ⟨2, ![2, 256]⟩
abbrev S256x64 : Shape := ⟨2, ![256, 64]⟩
abbrev S256 : Shape := ⟨1, ![256]⟩
abbrev S1920x512 : Shape := ⟨2, ![1920, 512]⟩
abbrev S64x512 : Shape := ⟨2, ![64, 512]⟩

abbrev nBuf : Space → Nat
  | .hbm => 21
  | .vmem => 30
  | .smem => 0
  | _ => 0

abbrev bufTy : (tb : Table) → Fin (tcTables nBuf tb) → BufTy
  | .hbm, ⟨0, _⟩ => ⟨S3x640x18944, .bf16⟩
  | .hbm, ⟨1, _⟩ => ⟨S3x640x3584, .fp8e4m3⟩
  | .hbm, ⟨2, _⟩ => ⟨S3x640, .f32⟩
  | .hbm, ⟨3, _⟩ => ⟨S1792x18944, .i8⟩
  | .hbm, ⟨4, _⟩ => ⟨S28x18944, .bf16⟩
  | .hbm, ⟨5, _⟩ => ⟨S3584x64, .bf16⟩
  | .hbm, ⟨6, _⟩ => ⟨S64x18944, .bf16⟩
  | .hbm, ⟨7, _⟩ => ⟨S18944, .f32⟩
  | .hbm, ⟨8, _⟩ => ⟨S18944, .f32⟩
  | .hbm, ⟨9, _⟩ => ⟨S1920x18944, .bf16⟩
  | .hbm, ⟨10, _⟩ => ⟨S1920x3584, .fp8e4m3⟩
  | .hbm, ⟨11, _⟩ => ⟨S1920x1, .f32⟩
  | .hbm, ⟨12, _⟩ => ⟨S1x1920, .f32⟩
  | .hbm, ⟨13, _⟩ => ⟨S28x18944, .f32⟩
  | .hbm, ⟨14, _⟩ => ⟨S64x3584, .bf16⟩
  | .hbm, ⟨15, _⟩ => ⟨S1x18944, .f32⟩
  | .hbm, ⟨16, _⟩ => ⟨S1x18944, .f32⟩
  | .hbm, ⟨17, _⟩ => ⟨S1920x3584, .bf16⟩
  | .hbm, ⟨18, _⟩ => ⟨S64x3584, .bf16⟩
  | .hbm, ⟨19, _⟩ => ⟨S64x18944, .bf16⟩
  | .hbm, ⟨20, _⟩ => ⟨S1x18944, .f32⟩
  | .local _ .vmem, ⟨0, _⟩ => ⟨S1920x256, .bf16⟩
  | .local _ .vmem, ⟨1, _⟩ => ⟨S1920x256, .bf16⟩
  | .local _ .vmem, ⟨2, _⟩ => ⟨S1920x1, .f32⟩
  | .local _ .vmem, ⟨3, _⟩ => ⟨S1x1920, .f32⟩
  | .local _ .vmem, ⟨4, _⟩ => ⟨S1792x256, .i8⟩
  | .local _ .vmem, ⟨5, _⟩ => ⟨S1792x256, .i8⟩
  | .local _ .vmem, ⟨6, _⟩ => ⟨S28x256, .f32⟩
  | .local _ .vmem, ⟨7, _⟩ => ⟨S28x256, .f32⟩
  | .local _ .vmem, ⟨8, _⟩ => ⟨S3584x64, .bf16⟩
  | .local _ .vmem, ⟨9, _⟩ => ⟨S64x3584, .bf16⟩
  | .local _ .vmem, ⟨10, _⟩ => ⟨S64x256, .bf16⟩
  | .local _ .vmem, ⟨11, _⟩ => ⟨S64x256, .bf16⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S64x3584, .bf16⟩
  | .local _ .vmem, ⟨17, _⟩ => ⟨S64x256, .bf16⟩
  | .local _ .vmem, ⟨18, _⟩ => ⟨S64x256, .bf16⟩
  | .local _ .vmem, ⟨19, _⟩ => ⟨S1x256, .f32⟩
  | .local _ .vmem, ⟨20, _⟩ => ⟨S1x256, .f32⟩
  | .local _ .vmem, ⟨21, _⟩ => ⟨S1920x3584, .bf16⟩
  | .local _ .vmem, ⟨22, _⟩ => ⟨S1920x3584, .f32⟩
  | .local _ .vmem, ⟨23, _⟩ => ⟨S3584x256, .bf16⟩
  | .local _ .vmem, ⟨24, _⟩ => ⟨S3584x256, .bf16⟩
  | .local _ .vmem, ⟨25, _⟩ => ⟨S1920x256, .bf16⟩
  | .local _ .vmem, ⟨26, _⟩ => ⟨S64x1920, .bf16⟩
  | .local _ .vmem, ⟨27, _⟩ => ⟨S64x1920, .f32⟩
  | .local _ .vmem, ⟨28, _⟩ => ⟨S64x3584, .f32⟩
  | .local _ .vmem, ⟨29, _⟩ => ⟨S1920x3584, .fp8e4m3⟩
  | _, _ => ⟨S3x640x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch9 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![74], ![false]⟩

def k0_cond2 (i : grid0.Coords) : BitVec 1 :=
  let arg0 : BitVec 32 := BitVec.ofNat 32 (i 0).val
  let c73_i32 : BitVec 32 := 73#32
  let v596 : BitVec 1 := Scalar.cmpi .eq arg0 c73_i32
  let v597 : BitVec 32 := Scalar.extui v596
  let c0_i32_222 : BitVec 32 := 0#32
  let v598 : BitVec 1 := Scalar.cmpi .ne v597 c0_i32_222
  v598

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1920x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1920x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1920 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1792x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S28x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3584x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x3584 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S3x640x18944 : Shape := ⟨3, ![3, 640, 18944]⟩
abbrev S3x640x3584 : Shape := ⟨3, ![3, 640, 3584]⟩
abbrev S3x640 : Shape := ⟨2, ![3, 640]⟩
abbrev S1792x18944 : Shape := ⟨2, ![1792, 18944]⟩
abbrev S28x18944 : Shape := ⟨2, ![28, 18944]⟩
abbrev S3584x64 : Shape := ⟨2, ![3584, 64]⟩
abbrev S64x18944 : Shape := ⟨2, ![64, 18944]⟩
abbrev S18944 : Shape := ⟨1, ![18944]⟩
abbrev S2 : Shape := ⟨1, ![2]⟩
abbrev S_ : Shape := ⟨0, ![]⟩
abbrev S1x1792x18944 : Shape := ⟨3, ![1, 1792, 18944]⟩
abbrev S2x1x1 : Shape := ⟨3, ![2, 1, 1]⟩
abbrev S2x1792x18944 : Shape := ⟨3, ![2, 1792, 18944]⟩
abbrev S2x28x64x18944 : Shape := ⟨4, ![2, 28, 64, 18944]⟩
abbrev S1x28x1x18944 : Shape := ⟨4, ![1, 28, 1, 18944]⟩
abbrev S1792x2x64 : Shape := ⟨3, ![1792, 2, 64]⟩
abbrev S2x1792x64 : Shape := ⟨3, ![2, 1792, 64]⟩
abbrev S1x1x18944 : Shape := ⟨3, ![1, 1, 18944]⟩
abbrev S2x1792x3x640 : Shape := ⟨4, ![2, 1792, 3, 640]⟩
abbrev S3x640x1792x2 : Shape := ⟨4, ![3, 640, 1792, 2]⟩
abbrev S3x640x1 : Shape := ⟨3, ![3, 640, 1]⟩
abbrev S3x640x64 : Shape := ⟨3, ![3, 640, 64]⟩
abbrev S64x2x1792 : Shape := ⟨3, ![64, 2, 1792]⟩
abbrev S1920x3584 : Shape := ⟨2, ![1920, 3584]⟩
abbrev S64x3584 : Shape := ⟨2, ![64, 3584]⟩
abbrev S1x18944 : Shape := ⟨2, ![1, 18944]⟩

abbrev nBuf : Space → Nat
  | .hbm => 101
  | .vmem => 2
  | .smem => 0
  | _ => 0

abbrev bufTy : (tb : Table) → Fin (tcTables nBuf tb) → BufTy
  | .hbm, ⟨0, _⟩ => ⟨S3x640x18944, .bf16⟩
  | .hbm, ⟨1, _⟩ => ⟨S3x640x3584, .fp8e4m3⟩
  | .hbm, ⟨2, _⟩ => ⟨S3x640, .f32⟩
  | .hbm, ⟨3, _⟩ => ⟨S1792x18944, .i8⟩
  | .hbm, ⟨4, _⟩ => ⟨S28x18944, .bf16⟩
  | .hbm, ⟨5, _⟩ => ⟨S3584x64, .bf16⟩
  | .hbm, ⟨6, _⟩ => ⟨S64x18944, .bf16⟩
  | .hbm, ⟨7, _⟩ => ⟨S18944, .f32⟩
  | .hbm, ⟨8, _⟩ => ⟨S18944, .f32⟩
  | .hbm, ⟨9, _⟩ => ⟨S3x640x3584, .bf16⟩
  | .hbm, ⟨10, _⟩ => ⟨S1792x18944, .i32⟩
  | .hbm, ⟨11, _⟩ => ⟨S2, .i32⟩
  | .hbm, ⟨12, _⟩ => ⟨S_, .i32⟩
  | .hbm, ⟨13, _⟩ => ⟨S2, .i32⟩
  | .hbm, ⟨14, _⟩ => ⟨S2, .i32⟩
  | .hbm, ⟨15, _⟩ => ⟨S1x1792x18944, .i32⟩
  | .hbm, ⟨16, _⟩ => ⟨S2x1x1, .i32⟩
  | .hbm, ⟨17, _⟩ => ⟨S2x1792x18944, .i32⟩
  | .hbm, ⟨18, _⟩ => ⟨S2x1792x18944, .i32⟩
  | .hbm, ⟨19, _⟩ => ⟨S2x1792x18944, .i32⟩
  | .hbm, ⟨20, _⟩ => ⟨S_, .i32⟩
  | .hbm, ⟨21, _⟩ => ⟨S2x1792x18944, .i32⟩
  | .hbm, ⟨22, _⟩ => ⟨S2x1792x18944, .i32⟩
  | .hbm, ⟨23, _⟩ => ⟨S_, .i32⟩
  | .hbm, ⟨24, _⟩ => ⟨S2x1792x18944, .i32⟩
  | .hbm, ⟨25, _⟩ => ⟨S2x1792x18944, .i32⟩
  | .hbm, ⟨26, _⟩ => ⟨S_, .i32⟩
  | .hbm, ⟨27, _⟩ => ⟨S2x1792x18944, .i32⟩
  | .hbm, ⟨28, _⟩ => ⟨S2x1792x18944, .i32⟩
  | .hbm, ⟨29, _⟩ => ⟨S2x1792x18944, .bf16⟩
  | .hbm, ⟨30, _⟩ => ⟨S2x28x64x18944, .bf16⟩
  | .hbm, ⟨31, _⟩ => ⟨S1x28x1x18944, .bf16⟩
  | .hbm, ⟨32, _⟩ => ⟨S2x28x64x18944, .bf16⟩
  | .hbm, ⟨33, _⟩ => ⟨S2x28x64x18944, .bf16⟩
  | .hbm, ⟨34, _⟩ => ⟨S2x1792x18944, .bf16⟩
  | .hbm, ⟨35, _⟩ => ⟨S1792x2x64, .bf16⟩
  | .hbm, ⟨36, _⟩ => ⟨S2x1792x64, .bf16⟩
  | .hbm, ⟨37, _⟩ => ⟨S2x1792x18944, .f32⟩
  | .hbm, ⟨38, _⟩ => ⟨S2x1792x18944, .f32⟩
  | .hbm, ⟨39, _⟩ => ⟨S_, .f32⟩
  | .hbm, ⟨40, _⟩ => ⟨S2x1792x18944, .f32⟩
  | .hbm, ⟨41, _⟩ => ⟨S2x1792x18944, .f32⟩
  | .hbm, ⟨42, _⟩ => ⟨S2x1792x18944, .f32⟩
  | .hbm, ⟨43, _⟩ => ⟨S2x1792x18944, .bf16⟩
  | .hbm, ⟨44, _⟩ => ⟨S3x640x18944, .f32⟩
  | .hbm, ⟨45, _⟩ => ⟨S18944, .f32⟩
  | .hbm, ⟨46, _⟩ => ⟨S1x1x18944, .f32⟩
  | .hbm, ⟨47, _⟩ => ⟨S3x640x18944, .f32⟩
  | .hbm, ⟨48, _⟩ => ⟨S3x640x18944, .f32⟩
  | .hbm, ⟨49, _⟩ => ⟨S3x640x18944, .bf16⟩
  | .hbm, ⟨50, _⟩ => ⟨S2x1792x3x640, .f32⟩
  | .hbm, ⟨51, _⟩ => ⟨S3x640x1792x2, .f32⟩
  | .hbm, ⟨52, _⟩ => ⟨S3x640x3584, .f32⟩
  | .hbm, ⟨53, _⟩ => ⟨S3x640x3584, .bf16⟩
  | .hbm, ⟨54, _⟩ => ⟨S3x640x1792x2, .bf16⟩
  | .hbm, ⟨55, _⟩ => ⟨S3x640x18944, .f32⟩
  | .hbm, ⟨56, _⟩ => ⟨S3x640x1, .f32⟩
  | .hbm, ⟨57, _⟩ => ⟨S3x640x18944, .f32⟩
  | .hbm, ⟨58, _⟩ => ⟨S3x640x18944, .f32⟩
  | .hbm, ⟨59, _⟩ => ⟨S3x640x18944, .f32⟩
  | .hbm, ⟨60, _⟩ => ⟨S_, .f32⟩
  | .hbm, ⟨61, _⟩ => ⟨S18944, .f32⟩
  | .hbm, ⟨62, _⟩ => ⟨S18944, .f32⟩
  | .hbm, ⟨63, _⟩ => ⟨S18944, .f32⟩
  | .hbm, ⟨64, _⟩ => ⟨S18944, .f32⟩
  | .hbm, ⟨65, _⟩ => ⟨S18944, .f32⟩
  | .hbm, ⟨66, _⟩ => ⟨S2x1792x18944, .f32⟩
  | .hbm, ⟨67, _⟩ => ⟨S1x1x18944, .f32⟩
  | .hbm, ⟨68, _⟩ => ⟨S2x1792x18944, .f32⟩
  | .hbm, ⟨69, _⟩ => ⟨S2x1792x18944, .f32⟩
  | .hbm, ⟨70, _⟩ => ⟨S2x1792x18944, .bf16⟩
  | .hbm, ⟨71, _⟩ => ⟨S3x640x64, .f32⟩
  | .hbm, ⟨72, _⟩ => ⟨S3x640x64, .bf16⟩
  | .hbm, ⟨73, _⟩ => ⟨S3x640, .bf16⟩
  | .hbm, ⟨74, _⟩ => ⟨S3x640x1, .bf16⟩
  | .hbm, ⟨75, _⟩ => ⟨S3x640x3584, .bf16⟩
  | .hbm, ⟨76, _⟩ => ⟨S3x640x3584, .bf16⟩
  | .hbm, ⟨77, _⟩ => ⟨S3584x64, .f32⟩
  | .hbm, ⟨78, _⟩ => ⟨S64x2x1792, .f32⟩
  | .hbm, ⟨79, _⟩ => ⟨S1792x2x64, .f32⟩
  | .hbm, ⟨80, _⟩ => ⟨S3584x64, .f32⟩
  | .hbm, ⟨81, _⟩ => ⟨S3584x64, .f32⟩
  | .hbm, ⟨82, _⟩ => ⟨S_, .f32⟩
  | .hbm, ⟨83, _⟩ => ⟨S3584x64, .f32⟩
  | .hbm, ⟨84, _⟩ => ⟨S3584x64, .f32⟩
  | .hbm, ⟨85, _⟩ => ⟨S3584x64, .bf16⟩
  | .hbm, ⟨86, _⟩ => ⟨S3x640x64, .f32⟩
  | .hbm, ⟨87, _⟩ => ⟨S3x640x1, .f32⟩
  | .hbm, ⟨88, _⟩ => ⟨S3x640x64, .f32⟩
  | .hbm, ⟨89, _⟩ => ⟨S3x640x64, .f32⟩
  | .hbm, ⟨90, _⟩ => ⟨S3x640x64, .bf16⟩
  | .hbm, ⟨91, _⟩ => ⟨S64x18944, .f32⟩
  | .hbm, ⟨92, _⟩ => ⟨S64x18944, .f32⟩
  | .hbm, ⟨93, _⟩ => ⟨S64x18944, .f32⟩
  | .hbm, ⟨94, _⟩ => ⟨S_, .f32⟩
  | .hbm, ⟨95, _⟩ => ⟨S64x18944, .f32⟩
  | .hbm, ⟨96, _⟩ => ⟨S64x18944, .f32⟩
  | .hbm, ⟨97, _⟩ => ⟨S64x18944, .bf16⟩
  | .hbm, ⟨98, _⟩ => ⟨S1920x3584, .bf16⟩
  | .hbm, ⟨99, _⟩ => ⟨S64x3584, .bf16⟩
  | .hbm, ⟨100, _⟩ => ⟨S1x18944, .f32⟩
  | .local _ .vmem, ⟨0, _⟩ => ⟨S3x640x3584, .fp8e4m3⟩
  | .local _ .vmem, ⟨1, _⟩ => ⟨S3x640x3584, .bf16⟩
  | _, _ => ⟨S3x640x18944, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_5 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x640x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelSame.lean ====
/- The program as written and the program read at exact arithmetic are one text: the kernel's function is
   the same function of its operands in both. -/
module

public import proofs.«01_k».proof.Proof.Gen.Kernel
public import proofs.«01_k».proof.Proof.Gen.KernelIdeal

@[expose] public section
set_option maxRecDepth 100000

noncomputable section
namespace Cert.Dora
open Idealize.ShloMosaic Idealize.SL.Sem

variable {F : FTy → Type} [FloatOps F]

set_option maxHeartbeats 4000000 in
/-- The kernel's function is the same in both programs, over any float values. -/
theorem body_same : @Cert.Kernel.cc0_dora_backward F _ _ = @Cert.KernelIdeal.cc0_dora_backward F _ _ := rfl

end Cert.Dora
end
end
-- ==== Proof.FrameCover.lean ====
/- The first part of the frame of the ideal kernel: what each window, each carried scratch and the result in HBM hold after the body, in each of the three cases of the body (first step, middle steps, last step). -/
module

public import proofs.«01_k».proof.Proof.Gen.KernelIdeal.Frame.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Case A stores nothing into output 10 (the window is idle at its points and not written back there):
    no pieces — a placeholder (junk read back) that nothing consults, since at these points the window is neither
    written back nor read at the next point (Lib/Pipeline.lean "Idle points"). -/
def out0_A_10 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S64x3584 .bf16 :=
  VO0_10.read (Elt F) (VO0_10.writes (Elt F) VO0_10.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).1)

/-- Case A's pieces for output 11 tile its block (1 store of `S64x256`, checked by the kernel's evaluation: Lib/Ring.lean `Piece.tiledL`, linear in the pieces, through a loop's `@[irreducible]` trip theorem too), so they cover it. -/
theorem cover0_A_11 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S64x256.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.1 S64x256.size (by sl_kernel_rfl) y

/-- What case A leaves in output 11's staging buffer: its pieces read back over junk. -/
def out0_A_11 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S64x256 .bf16 :=
  VO0_11.read (Elt F) (VO0_11.writes (Elt F) VO0_11.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.1)

/-- Case A's pieces for output 12 tile its block (1 store of `S1x256`, checked by the kernel's evaluation: Lib/Ring.lean `Piece.tiledL`, linear in the pieces, through a loop's `@[irreducible]` trip theorem too), so they cover it. -/
theorem cover0_A_12 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S1x256.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.1 S1x256.size (by sl_kernel_rfl) y

/-- What case A leaves in output 12's staging buffer: its pieces read back over junk. -/
def out0_A_12 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S1x256 .f32 :=
  VO0_12.read (Elt F) (VO0_12.writes (Elt F) VO0_12.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.1)

/-- Case A's pieces for scratch `arg16`, which the kernel carries between points, cover it: 1 piece of `S1920x3584` tiling it (Lib/Ring.lean `Piece.tiledL`). -/
theorem scover0_A_0 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S1920x3584.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.1 S1920x3584.size (by sl_kernel_rfl) y

/-- What case A leaves in scratch `arg16`: its pieces read back over junk. -/
def sout0_A_0 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S1920x3584 .bf16 :=
  VS0_0.read (Elt F) (VS0_0.writes (Elt F) VS0_0.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.1)

/-- Case A's pieces for scratch `arg17`, which the kernel carries between points, cover it: 2 pieces of `S1920x3584` tiling it (Lib/Ring.lean `Piece.tiledL`). -/
theorem scover0_A_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S1920x3584.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.1 S1920x3584.size (by sl_kernel_rfl) y

/-- What case A leaves in scratch `arg17`: its pieces read back over junk. -/
def sout0_A_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S1920x3584 .f32 :=
  VS0_1.read (Elt F) (VS0_1.writes (Elt F) VS0_1.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.1)

/-- Case A's pieces for scratch `arg21`, which the kernel carries between points, cover it: 1 piece of `S64x1920` tiling it (Lib/Ring.lean `Piece.tiledL`). -/
theorem scover0_A_5 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S64x1920.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.1 S64x1920.size (by sl_kernel_rfl) y

/-- What case A leaves in scratch `arg21`: its pieces read back over junk. -/
def sout0_A_5 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S64x1920 .bf16 :=
  VS0_5.read (Elt F) (VS0_5.writes (Elt F) VS0_5.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.1)

/-- Case A's pieces for scratch `arg22`, which the kernel carries between points, cover it: 2 pieces of `S64x1920` tiling it (Lib/Ring.lean `Piece.tiledL`). -/
theorem scover0_A_6 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S64x1920.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.1 S64x1920.size (by sl_kernel_rfl) y

/-- What case A leaves in scratch `arg22`: its pieces read back over junk. -/
def sout0_A_6 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S64x1920 .f32 :=
  VS0_6.read (Elt F) (VS0_6.writes (Elt F) VS0_6.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.1)

/-- Case A's pieces for scratch `arg23`, which the kernel carries between points, cover it: 2 pieces of `S64x3584` tiling it (Lib/Ring.lean `Piece.tiledL`). -/
theorem scover0_A_7 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) (y : S64x3584.Idx) :
    ∃ pc ∈ (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.2.1, y ∈ pc.1.set :=
  View.cover_of_tiledL (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.2.1 S64x3584.size (by sl_kernel_rfl) y

/-- What case A leaves in scratch `arg23`: its pieces read back over junk. -/
def sout0_A_7 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : Vec F S64x3584 .f32 :=
  VS0_7.read (Elt F) (VS0_7.writes (Elt F) VS0_7.junk (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.2.1)

/-- Case A copies nothing into `main_v8_0`: it holds the contents it started from (`fw1`), as the run
    hands them back. -/
def hbw0_A_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (fh0 : HbBuf0 (F := F) c hbM0_0) (fw1 : HbBuf0 (F := F) c hbM0_1) : HbBuf0 (F := F) c hbM0_1 := (kernelRun0_A c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1).2.2.2.2.2.2.2.2.2.2.2.2.1

/-- Case B stores nothing into output 10 (the window is idle at its points and not written back there):
    no pieces — a placeholder (junk read back) that nothing consults, since at these points the window is neither
    written back nor read at the next point (Lib/Pipeline.lean "Idle points"). -/
def out0_B_10 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x3584 .bf16 :=
  VO0_10.read (Elt F) (VO0_10.writes (Elt F) VO0_10.junk (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).1)

/-- Case B's pieces for output 11 tile its block (1 store of `S64x256`, checked by the kernel's evaluation: Lib/Ring.lean `Piece.tiledL`, linear in the pieces, through a loop's `@[irreducible]` trip theorem too), so they cover it. -/
theorem cover0_B_11 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x256.Idx) :
    ∃ pc ∈ (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.1, y ∈ pc.1.set :=
  View.cover_of_tiledL (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.1 S64x256.size (by sl_kernel_rfl) y

/-- What case B leaves in output 11's staging buffer: its pieces read back over junk. -/
def out0_B_11 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x256 .bf16 :=
  VO0_11.read (Elt F) (VO0_11.writes (Elt F) VO0_11.junk (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.1)

/-- Case B's pieces for output 12 tile its block (1 store of `S1x256`, checked by the kernel's evaluation: Lib/Ring.lean `Piece.tiledL`, linear in the pieces, through a loop's `@[irreducible]` trip theorem too), so they cover it. -/
theorem cover0_B_12 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S1x256.Idx) :
    ∃ pc ∈ (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.1, y ∈ pc.1.set :=
  View.cover_of_tiledL (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.1 S1x256.size (by sl_kernel_rfl) y

/-- What case B leaves in output 12's staging buffer: its pieces read back over junk. -/
def out0_B_12 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S1x256 .f32 :=
  VO0_12.read (Elt F) (VO0_12.writes (Elt F) VO0_12.junk (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.1)

/-- Case B stores nothing into scratch `arg16`: it holds what the point before left. -/
def sout0_B_0 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S1920x3584 .bf16 := xs0

/-- Case B's pieces for scratch `arg17`, which the kernel carries between points, cover it: 1 piece of `S1920x3584` tiling it (Lib/Ring.lean `Piece.tiledL`). -/
theorem scover0_B_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S1920x3584.Idx) :
    ∃ pc ∈ (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.1, y ∈ pc.1.set :=
  View.cover_of_tiledL (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.1 S1920x3584.size (by sl_kernel_rfl) y

/-- What case B leaves in scratch `arg17`: its pieces read back over junk. -/
def sout0_B_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S1920x3584 .f32 :=
  VS0_1.read (Elt F) (VS0_1.writes (Elt F) VS0_1.junk (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.1)

/-- Case B stores nothing into scratch `arg21`: it holds what the point before left. -/
def sout0_B_5 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x1920 .bf16 := xs5

/-- Case B's pieces for scratch `arg22`, which the kernel carries between points, cover it: 1 piece of `S64x1920` tiling it (Lib/Ring.lean `Piece.tiledL`). -/
theorem scover0_B_6 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x1920.Idx) :
    ∃ pc ∈ (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.1, y ∈ pc.1.set :=
  View.cover_of_tiledL (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.1 S64x1920.size (by sl_kernel_rfl) y

/-- What case B leaves in scratch `arg22`: its pieces read back over junk. -/
def sout0_B_6 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x1920 .f32 :=
  VS0_6.read (Elt F) (VS0_6.writes (Elt F) VS0_6.junk (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.1)

/-- Case B's pieces for scratch `arg23`, which the kernel carries between points, cover it: 1 piece of `S64x3584` tiling it (Lib/Ring.lean `Piece.tiledL`). -/
theorem scover0_B_7 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x3584.Idx) :
    ∃ pc ∈ (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.1, y ∈ pc.1.set :=
  View.cover_of_tiledL (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.1 S64x3584.size (by sl_kernel_rfl) y

/-- What case B leaves in scratch `arg23`: its pieces read back over junk. -/
def sout0_B_7 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x3584 .f32 :=
  VS0_7.read (Elt F) (VS0_7.writes (Elt F) VS0_7.junk (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.1)

/-- Case B copies nothing into `main_v8_0`: it holds the contents it started from (`fw1`), as the run
    hands them back. -/
def hbw0_B_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : ¬cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : HbBuf0 (F := F) c hbM0_1 := (kernelRun0_B c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.2.2.2.2.2.1

/-- Case C's pieces for output 10 tile its block (7 stores of `S64x512`, checked by the kernel's evaluation: Lib/Ring.lean `Piece.tiledL`, linear in the pieces, through a loop's `@[irreducible]` trip theorem too), so they cover it. -/
theorem cover0_C_10 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x3584.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).1 S64x512.size (by sl_kernel_rfl) y

/-- What case C leaves in output 10's staging buffer: its pieces read back over junk. -/
def out0_C_10 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x3584 .bf16 :=
  VO0_10.read (Elt F) (VO0_10.writes (Elt F) VO0_10.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).1)

/-- Case C's pieces for output 11 tile its block (1 store of `S64x256`, checked by the kernel's evaluation: Lib/Ring.lean `Piece.tiledL`, linear in the pieces, through a loop's `@[irreducible]` trip theorem too), so they cover it. -/
theorem cover0_C_11 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x256.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.1 S64x256.size (by sl_kernel_rfl) y

/-- What case C leaves in output 11's staging buffer: its pieces read back over junk. -/
def out0_C_11 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x256 .bf16 :=
  VO0_11.read (Elt F) (VO0_11.writes (Elt F) VO0_11.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.1)

/-- Case C's pieces for output 12 tile its block (1 store of `S1x256`, checked by the kernel's evaluation: Lib/Ring.lean `Piece.tiledL`, linear in the pieces, through a loop's `@[irreducible]` trip theorem too), so they cover it. -/
theorem cover0_C_12 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S1x256.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.1 S1x256.size (by sl_kernel_rfl) y

/-- What case C leaves in output 12's staging buffer: its pieces read back over junk. -/
def out0_C_12 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S1x256 .f32 :=
  VO0_12.read (Elt F) (VO0_12.writes (Elt F) VO0_12.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.1)

/-- Case C's pieces for scratch `arg16`, which the kernel carries between points, cover it: 7 pieces of `S1920x512` tiling it (Lib/Ring.lean `Piece.tiledL`). -/
theorem scover0_C_0 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S1920x3584.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.1 S1920x512.size (by sl_kernel_rfl) y

/-- What case C leaves in scratch `arg16`: its pieces read back over junk. -/
def sout0_C_0 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S1920x3584 .bf16 :=
  VS0_0.read (Elt F) (VS0_0.writes (Elt F) VS0_0.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.1)

/-- Case C's pieces for scratch `arg17`, which the kernel carries between points, cover it: 1 piece of `S1920x3584` tiling it (Lib/Ring.lean `Piece.tiledL`). -/
theorem scover0_C_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S1920x3584.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.1 S1920x3584.size (by sl_kernel_rfl) y

/-- What case C leaves in scratch `arg17`: its pieces read back over junk. -/
def sout0_C_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S1920x3584 .f32 :=
  VS0_1.read (Elt F) (VS0_1.writes (Elt F) VS0_1.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.1)

/-- Case C stores nothing into scratch `arg21`: it holds what the point before left. -/
def sout0_C_5 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x1920 .bf16 := xs5

/-- Case C's pieces for scratch `arg22`, which the kernel carries between points, cover it: 1 piece of `S64x1920` tiling it (Lib/Ring.lean `Piece.tiledL`). -/
theorem scover0_C_6 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x1920.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.1 S64x1920.size (by sl_kernel_rfl) y

/-- What case C leaves in scratch `arg22`: its pieces read back over junk. -/
def sout0_C_6 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x1920 .f32 :=
  VS0_6.read (Elt F) (VS0_6.writes (Elt F) VS0_6.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.1)

/-- Case C's pieces for scratch `arg23`, which the kernel carries between points, cover it: 1 piece of `S64x3584` tiling it (Lib/Ring.lean `Piece.tiledL`). -/
theorem scover0_C_7 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) (y : S64x3584.Idx) :
    ∃ pc ∈ (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.1, y ∈ pc.1.set :=
  View.cover_of_tiledL (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.1 S64x3584.size (by sl_kernel_rfl) y

/-- What case C leaves in scratch `arg23`: its pieces read back over junk. -/
def sout0_C_7 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : Vec F S64x3584 .f32 :=
  VS0_7.read (Elt F) (VS0_7.writes (Elt F) VS0_7.junk (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.1)

/-- What case C leaves in `main_v8_0`, the result left in HBM its copies out of scratch write: the contents
    it started from (`fw1`: what the point before left there, at the first point the launch's) with those copies written over
    them — the contents term the run finds, its witness. -/
def hbw0_C_1 (c : Dev nD) (i : grid0.Coords) (arg1 : Memref sig .tc .vmem S1920x256 .bf16) (harg1 : arg1.IsWhole) (arg3 : Memref sig .tc .vmem S1920x1 .f32) (harg3 : arg3.IsWhole) (arg4 : Memref sig .tc .vmem S1x1920 .f32) (harg4 : arg4.IsWhole) (arg5 : Memref sig .tc .vmem S1792x256 .i8) (harg5 : arg5.IsWhole) (arg6 : Memref sig .tc .vmem S28x256 .f32) (harg6 : arg6.IsWhole) (arg7 : Memref sig .tc .vmem S3584x64 .bf16) (harg7 : arg7.IsWhole) (arg8 : Memref sig .tc .vmem S64x3584 .bf16) (harg8 : arg8.IsWhole) (arg9 : Memref sig .tc .vmem S64x256 .bf16) (harg9 : arg9.IsWhole) (arg10 : Memref sig .tc .vmem S1x256 .f32) (harg10 : arg10.IsWhole) (arg11 : Memref sig .tc .vmem S1x256 .f32) (harg11 : arg11.IsWhole) (arg13 : Memref sig .tc .vmem S64x3584 .bf16) (harg13 : arg13.IsWhole) (arg14 : Memref sig .tc .vmem S64x256 .bf16) (harg14 : arg14.IsWhole) (arg15 : Memref sig .tc .vmem S1x256 .f32) (harg15 : arg15.IsWhole) (arg16 : Memref sig .tc .vmem S1920x3584 .bf16) (harg16 : arg16.IsWhole) (arg17 : Memref sig .tc .vmem S1920x3584 .f32) (harg17 : arg17.IsWhole) (arg18 : Memref sig .tc .vmem S3584x256 .bf16) (harg18 : arg18.IsWhole) (arg19 : Memref sig .tc .vmem S3584x256 .bf16) (harg19 : arg19.IsWhole) (arg20 : Memref sig .tc .vmem S1920x256 .bf16) (harg20 : arg20.IsWhole) (arg21 : Memref sig .tc .vmem S64x1920 .bf16) (harg21 : arg21.IsWhole) (arg22 : Memref sig .tc .vmem S64x1920 .f32) (harg22 : arg22.IsWhole) (arg23 : Memref sig .tc .vmem S64x3584 .f32) (harg23 : arg23.IsWhole) (arg25 : Memref sig .tc .vmem S1920x3584 .fp8e4m3) (harg25 : arg25.IsWhole) (hc0 : ¬cond0_0 i) (hc1 : cond0_1 i)
    (x0 : Vec F S1920x256 .bf16) (x1 : Vec F S1920x1 .f32) (x2 : Vec F S1x1920 .f32) (x3 : Vec F S1792x256 .i8) (x4 : Vec F S28x256 .f32) (x5 : Vec F S3584x64 .bf16) (x6 : Vec F S64x3584 .bf16) (x7 : Vec F S64x256 .bf16) (x8 : Vec F S1x256 .f32) (x9 : Vec F S1x256 .f32) (xs0 : Vec F S1920x3584 .bf16) (xs1 : Vec F S1920x3584 .f32) (xs5 : Vec F S64x1920 .bf16) (xs6 : Vec F S64x1920 .f32) (xs7 : Vec F S64x3584 .f32) (fh0 : HbBuf0 (F := F) c hbM0_0) (fw1 : HbBuf0 (F := F) c hbM0_1) : HbBuf0 (F := F) c hbM0_1 := (kernelRun0_C c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1).2.2.2.2.2.2.2.2.2.2.2.2.1

/-! ## What the outputs hold after each point -/

end Cert.KernelIdeal.Gen

end
-- ==== Proof.FrameOuts.lean ====
/- The second part of the frame of the ideal kernel: what the windows and the carried scratch hold point by point. -/
module

public import proofs.«01_k».proof.Proof.FrameCover

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- THE ACCUMULATION. What the outputs' staging buffers and the scratch the kernel carries between points and the results its copies out write hold after the body at position `n` (a tuple: the outputs in window order, then the scratch, then the results held by value):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x3584 .bf16 × Vec F S64x256 .bf16 × Vec F S1x256 .f32 × Vec F S1920x3584 .bf16 × Vec F S1920x3584 .f32 × Vec F S64x1920 .bf16 × Vec F S64x1920 .f32 × Vec F S64x3584 .f32 × HbBuf0 (F := F) c hbM0_1
  | 0, hn => (out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), sout0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), sout0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0), hbw0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (V m c main_v1) (V m c main_v8_0))
  | n + 1, hn =>
    if h0 : (n + 1) % 74 = 0 then
      if h1 : (n + 1) % 74 = 73 then
        False.elim (by have hN : n + 1 < 74 := lt_of_lt_of_eq hn (show cfg0.N = 74 from N_0); omega)
      else
        (out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), sout0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), sout0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0), hbw0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (V m c main_v1) (V m c main_v8_0))
    else
      if h1 : (n + 1) % 74 = 73 then
        (out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, hbw0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2)
      else
        (out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, sout0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2, hbw0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).2.2.2.1 (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (V m c main_v1) (outsAt0 c n (Nat.lt_of_succ_lt hn)).2.2.2.2.2.2.2.2)

/-- `outsAt0` at a point of case A: that case's contents. -/
theorem outsAt0_A (c : Dev nD) (t : Fin cfg0.N) (h0 : t.val % 74 = 0) (h1 : ¬t.val % 74 = 73) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), sout0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0), hbw0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 74 = 0) (h1 : ¬t.val % 74 = 73) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, hbw0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 74 = 0) (h1 : t.val % 74 = 73) :
    outsAt0 m c t.val t.isLt = (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, sout0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2, hbw0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans ((dif_pos h1).trans rfl)

end Cert.KernelIdeal.Gen

end
-- ==== Proof.FrameBody.lean ====
/- The third part of the frame of the ideal kernel: the invariant between points, the proof data and the obligation on the body. -/
module

public import proofs.«01_k».proof.Proof.FrameOuts

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The region invariant before position `n` with a scratch the kernel CARRIES between points: before the first point the
    launch's invariant (Lib/Pipeline/FrameValue.lean `ΦDRG`: every scratch at anything, the own cells at zero, the HBM operands read, those written at their launch contents, the generator register); afterwards the same with each carried
    scratch at what the point before left in it (`outsAt0`'s scratch components) and each result held by value at its `outsAt0` component, the others at anything. -/
def PhiS (c : Dev nD) : (n : ℕ) → n ≤ cfg0.N → sProp 𝕄
  | 0, _ => Pipeline.ΦDRG osem0 spec0 H0 R0 (V m) (V m) c
  | n + 1, hn => iprop(iprop(owns (c : Thread nD τ) scM0_0 fullShare ((outsAt0 m c n hn).2.2.2.1) ∗ owns (c : Thread nD τ) scM0_1 fullShare ((outsAt0 m c n hn).2.2.2.2.1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2.2.2.2.2.1) ∗ owns (c : Thread nD τ) scM0_6 fullShare ((outsAt0 m c n hn).2.2.2.2.2.2.1) ∗ owns (c : Thread nD τ) scM0_7 fullShare ((outsAt0 m c n hn).2.2.2.2.2.2.2.1) ∗ (∃ d, owns (c : Thread nD τ) scM0_8 fullShare d)) ∗ (∃ r, prngReg c r) ∗ iprop(semVal ((c : Thread nD τ), SemLoc.dma 21) 0) ∗ iprop(hbPt0 c hbM0_0 (V m c main_v1)) ∗ iprop(hbPt0 c hbM0_1 ((outsAt0 m c n hn).2.2.2.2.2.2.2.2)))

/-- Before the first point the invariant is what the launch hands over. -/
theorem PhiS_zero (c : Dev nD) (n : ℕ) (h : n ≤ cfg0.N) (hz : n = 0) : PhiS m c n h = Pipeline.ΦDRG osem0 spec0 H0 R0 (V m) (V m) c := by
  subst hz; rfl

/-- After point `n` (before point `n + 1`): the carried scratch and each result held by value at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c n hn).2.2.2.2.2.1) ∗ owns (c : Thread nD τ) scM0_6 fullShare ((outsAt0 m c n hn).2.2.2.2.2.2.1) ∗ owns (c : Thread nD τ) scM0_7 fullShare ((outsAt0 m c n hn).2.2.2.2.2.2.2.1) ∗ (∃ d, owns (c : Thread nD τ) scM0_8 fullShare d)) ∗ (∃ r, prngReg c r) ∗ iprop(semVal ((c : Thread nD τ), SemLoc.dma 21) 0) ∗ iprop(hbPt0 c hbM0_0 (V m c main_v1)) ∗ iprop(hbPt0 c hbM0_1 ((outsAt0 m c n hn).2.2.2.2.2.2.2.2))) := rfl

/-- Before a point that is not the first: the carried scratch and each result held by value at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ (∃ d, owns (c : Thread nD τ) scM0_2 fullShare d) ∗ (∃ d, owns (c : Thread nD τ) scM0_3 fullShare d) ∗ (∃ d, owns (c : Thread nD τ) scM0_4 fullShare d) ∗ owns (c : Thread nD τ) scM0_5 fullShare ((outsAt0 m c (n - 1) (by omega)).2.2.2.2.2.1) ∗ owns (c : Thread nD τ) scM0_6 fullShare ((outsAt0 m c (n - 1) (by omega)).2.2.2.2.2.2.1) ∗ owns (c : Thread nD τ) scM0_7 fullShare ((outsAt0 m c (n - 1) (by omega)).2.2.2.2.2.2.2.1) ∗ (∃ d, owns (c : Thread nD τ) scM0_8 fullShare d)) ∗ (∃ r, prngReg c r) ∗ iprop(semVal ((c : Thread nD τ), SemLoc.dma 21) 0) ∗ iprop(hbPt0 c hbM0_0 (V m c main_v1)) ∗ iprop(hbPt0 c hbM0_1 ((outsAt0 m c (n - 1) (by omega)).2.2.2.2.2.2.2.2))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (`PhiS`: Lib/Pipeline/FrameValue.lean `ΦDRG` before the first point — the scoped rest, the generator register, the own cells at zero,
    the HBM operands read and those written at their launch contents —, then the same with each written operand and each carried scratch
    at `outsAt0`'s component for the point before); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- Window 1's buffer after the body at a point: its input block, unchanged. -/
theorem after0_1 (c : Dev nD) (t : Fin cfg0.N) : (dats m 0 c).after 1 t = iblk m c 1 t := by dsimp only [dats]
/-- Window 2's buffer after the body at a point: its input block, unchanged. -/
theorem after0_2 (c : Dev nD) (t : Fin cfg0.N) : (dats m 0 c).after 2 t = iblk m c 2 t := by dsimp only [dats]
/-- Window 3's buffer after the body at a point: its input block, unchanged. -/
theorem after0_3 (c : Dev nD) (t : Fin cfg0.N) : (dats m 0 c).after 3 t = iblk m c 3 t := by dsimp only [dats]
/-- Window 4's buffer after the body at a point: its input block, unchanged. -/
theorem after0_4 (c : Dev nD) (t : Fin cfg0.N) : (dats m 0 c).after 4 t = iblk m c 4 t := by dsimp only [dats]
/-- Window 5's buffer after the body at a point: its input block, unchanged. -/
theorem after0_5 (c : Dev nD) (t : Fin cfg0.N) : (dats m 0 c).after 5 t = iblk m c 5 t := by dsimp only [dats]
/-- Window 6's buffer after the body at a point: its input block, unchanged. -/
theorem after0_6 (c : Dev nD) (t : Fin cfg0.N) : (dats m 0 c).after 6 t = iblk m c 6 t := by dsimp only [dats]
/-- Window 7's buffer after the body at a point: its input block, unchanged. -/
theorem after0_7 (c : Dev nD) (t : Fin cfg0.N) : (dats m 0 c).after 7 t = iblk m c 7 t := by dsimp only [dats]
/-- Window 8's buffer after the body at a point: its input block, unchanged. -/
theorem after0_8 (c : Dev nD) (t : Fin cfg0.N) : (dats m 0 c).after 8 t = iblk m c 8 t := by dsimp only [dats]
/-- Window 9's buffer after the body at a point: its input block, unchanged. -/
theorem after0_9 (c : Dev nD) (t : Fin cfg0.N) : (dats m 0 c).after 9 t = iblk m c 9 t := by dsimp only [dats]
/-- Window 10's buffer after the body at a point: what the accumulation says. -/
theorem after0_10 (c : Dev nD) (t : Fin cfg0.N) : (dats m 0 c).after 10 t = (outsAt0 m c t.val t.isLt).1 := by dsimp only [dats]
/-- Window 11's buffer after the body at a point: what the accumulation says. -/
theorem after0_11 (c : Dev nD) (t : Fin cfg0.N) : (dats m 0 c).after 11 t = (outsAt0 m c t.val t.isLt).2.1 := by dsimp only [dats]
/-- Window 12's buffer after the body at a point: what the accumulation says. -/
theorem after0_12 (c : Dev nD) (t : Fin cfg0.N) : (dats m 0 c).after 12 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Window 1's buffer before the body at a point: its input block. -/
theorem before0_1 (c : Dev nD) (t : Fin cfg0.N) (d) : (dats m 0 c).before 1 t d = iblk m c 1 t :=
  before0_1_of m (dats m 0 c) (A_eq m c 1) (after0_1 m c) t d
/-- Window 2's buffer before the body at a point: its input block. -/
theorem before0_2 (c : Dev nD) (t : Fin cfg0.N) (d) : (dats m 0 c).before 2 t d = iblk m c 2 t :=
  before0_2_of m (dats m 0 c) (A_eq m c 2) (after0_2 m c) t d
/-- Window 3's buffer before the body at a point: its input block. -/
theorem before0_3 (c : Dev nD) (t : Fin cfg0.N) (d) : (dats m 0 c).before 3 t d = iblk m c 3 t :=
  before0_3_of m (dats m 0 c) (A_eq m c 3) (after0_3 m c) t d
/-- Window 4's buffer before the body at a point: its input block. -/
theorem before0_4 (c : Dev nD) (t : Fin cfg0.N) (d) : (dats m 0 c).before 4 t d = iblk m c 4 t :=
  before0_4_of m (dats m 0 c) (A_eq m c 4) (after0_4 m c) t d
/-- Window 5's buffer before the body at a point: its input block. -/
theorem before0_5 (c : Dev nD) (t : Fin cfg0.N) (d) : (dats m 0 c).before 5 t d = iblk m c 5 t :=
  before0_5_of m (dats m 0 c) (A_eq m c 5) (after0_5 m c) t d
/-- Window 6's buffer before the body at a point: its input block. -/
theorem before0_6 (c : Dev nD) (t : Fin cfg0.N) (d) : (dats m 0 c).before 6 t d = iblk m c 6 t :=
  before0_6_of m (dats m 0 c) (A_eq m c 6) (after0_6 m c) t d
/-- Window 7's buffer before the body at a point: its input block. -/
theorem before0_7 (c : Dev nD) (t : Fin cfg0.N) (d) : (dats m 0 c).before 7 t d = iblk m c 7 t :=
  before0_7_of m (dats m 0 c) (A_eq m c 7) (after0_7 m c) t d
/-- Window 8's buffer before the body at a point: its input block. -/
theorem before0_8 (c : Dev nD) (t : Fin cfg0.N) (d) : (dats m 0 c).before 8 t d = iblk m c 8 t :=
  before0_8_of m (dats m 0 c) (A_eq m c 8) (after0_8 m c) t d
/-- Window 9's buffer before the body at a point: its input block. -/
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 24000000 in
/-- The body at any point: the inputs' memrefs hold their blocks (`before0_W`); the closed forms say which case the point is in (`by_cases`), an output the case reads before covering holds what the point before left (`before0_W_κ`); so the
    run applies; the invariant hands the body the carried scratch and each result its copies out write at what the point before left (`PhiS_pos`; at the first point the scratch at anything and the result at its launch contents, `PhiS_zero` opened by `PhiDRG0_in_eq`), the other scratch at anything, the register, its DMA cells at zero and the HBM operands it reads, and takes both back at this point's contents (`PhiS_succ`: a written result as the run's witness `hbw0_κ_N`, the scratch by `scover0_κ_N`), the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 74 := lt_of_lt_of_eq t.isLt (show cfg0.N = 74 from N_0)
  by_cases h0 : t.val % 74 = 0
  · by_cases h1 : t.val % 74 = 73
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      by_cases hz : t.val = 0
      · rw [PhiS_castSucc m c t, PhiS_zero m c _ _ hz, PhiDRG0_in_eq]
        rw [outsAt0_A m c t h0 h1]
        unfold out0_A_11 out0_A_12 sout0_A_0 sout0_A_1 sout0_A_5 sout0_A_6 sout0_A_7 hbw0_A_1; (try dsimp only)
        iintro ⟨⟨⟨HS0, HS1, HS2, HS3, HS4, HS5, HS6, HS7, HS8⟩, Hg, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) _).2.2.2.2.2.2.2.2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [Hq0]; · iexact Hq0
        isplitl [Hh0]; · iexact Hh0
        isplitl [Hh1]; · iexact Hh1
        isplitl [HW]; · iexact HW
        iintro ⟨H0, H1, H2, H3, H4, H5, H6, H7, H8, H9, H10, ⟨%e11, H11⟩, ⟨%e12, H12⟩, ⟨%es0, HS0⟩, ⟨%es1, HS1⟩, ⟨%fT2, HS2⟩, ⟨%fT3, HS3⟩, ⟨%fT4, HS4⟩, ⟨%es5, HS5⟩, ⟨%es6, HS6⟩, ⟨%es7, HS7⟩, ⟨%fT8, HS8⟩, Hq0, Hh0, Hh1, ⟨%W', HW'⟩⟩
        isplitl [HS0 HS1 HS2 HS3 HS4 HS5 HS6 HS7 HS8 Hg Hq0 Hh0 Hh1]
        · isplitl [HS0 HS1 HS2 HS3 HS4 HS5 HS6 HS7 HS8]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]
            · unfold owns; iexists _; isplitr
              swap; · iexact HS5
              ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS6]
            · unfold owns; iexists _; isplitr
              swap; · iexact HS6
              ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_A_7 c _ _ _ _ _ _ _ _ _ _ _ _ _ _ _ _ _ _ _ _ _ _ _ _ _ _ _ _ _ _ _ _ _ _ _ _ _ _ _ _ _ _ _ _ _ _ _ _ _ _ _ _ _ _ _ _ _ _ _)
            iexists _; unfold owns; iexists _; isplitr
            swap; · iexact HS8
            ipureintro; rfl
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]
        · unfold owns; iexists _; isplitr
          swap; · iexact H11
          ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _)
      · exfalso; have hN : t.val < 74 := lt_of_lt_of_eq t.isLt (show cfg0.N = 74 from N_0); omega
  · by_cases h1 : t.val % 74 = 73
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      by_cases hz : t.val = 0
      · exfalso; have hN : t.val < 74 := lt_of_lt_of_eq t.isLt (show cfg0.N = 74 from N_0); omega
      · rw [PhiS_castSucc m c t, PhiS_pos m c _ _ hz]
        rw [outsAt0_C m c t h0 h1]
        unfold out0_C_10 out0_C_11 out0_C_12 sout0_C_0 sout0_C_1 sout0_C_5 sout0_C_6 sout0_C_7 hbw0_C_1; (try dsimp only)
        iintro ⟨⟨⟨HS0, HS1, HS2, HS3, HS4, HS5, HS6, HS7, HS8⟩, Hg, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _ _ _ (V m c main_v1) _).2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [Hq0]; · iexact Hq0
        isplitl [Hh0]; · iexact Hh0
        isplitl [Hh1]; · iexact Hh1
        isplitl [HW]; · iexact HW
        iintro ⟨H0, H1, H2, H3, H4, H5, H6, H7, H8, H9, ⟨%e10, H10⟩, ⟨%e11, H11⟩, ⟨%e12, H12⟩, ⟨%es0, HS0⟩, ⟨%es1, HS1⟩, ⟨%fT2, HS2⟩, ⟨%fT3, HS3⟩, ⟨%fT4, HS4⟩, HS5, ⟨%es6, HS6⟩, ⟨%es7, HS7⟩, HS8, Hq0, Hh0, Hh1, ⟨%W', HW'⟩⟩
        isplitl [HS0 HS1 HS2 HS3 HS4 HS5 HS6 HS7 HS8 Hg Hq0 Hh0 Hh1]
        · isplitl [HS0 HS1 HS2 HS3 HS4 HS5 HS6 HS7 HS8]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]; · iexact HS5
            isplitl [HS6]
            · unfold owns; iexists _; isplitr
              swap; · iexact HS6
              ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_C_7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact HS8
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H11]
        · unfold owns; iexists _; isplitr
          swap; · iexact H11
          ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      by_cases hz : t.val = 0
      · exfalso; have hN : t.val < 74 := lt_of_lt_of_eq t.isLt (show cfg0.N = 74 from N_0); omega
      · rw [PhiS_castSucc m c t, PhiS_pos m c _ _ hz]
        rw [outsAt0_B m c t h0 h1]
        unfold out0_B_11 out0_B_12 sout0_B_0 sout0_B_1 sout0_B_5 sout0_B_6 sout0_B_7 hbw0_B_1; (try dsimp only)
        iintro ⟨⟨⟨HS0, HS1, HS2, HS3, HS4, HS5, HS6, HS7, HS8⟩, Hg, Hq0, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _ _ _ (V m c main_v1) _).2.2.2.2.2.2.2.2.2.2.2.2.2 _ W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [Hq0]; · iexact Hq0
        isplitl [Hh0]; · iexact Hh0
        isplitl [Hh1]; · iexact Hh1
        isplitl [HW]; · iexact HW
        iintro ⟨H0, H1, H2, H3, H4, H5, H6, H7, H8, H9, H10, ⟨%e11, H11⟩, ⟨%e12, H12⟩, HS0, ⟨%es1, HS1⟩, ⟨%fT2, HS2⟩, ⟨%fT3, HS3⟩, ⟨%fT4, HS4⟩, HS5, ⟨%es6, HS6⟩, ⟨%es7, HS7⟩, HS8, Hq0, Hh0, Hh1, ⟨%W', HW'⟩⟩
        isplitl [HS0 HS1 HS2 HS3 HS4 HS5 HS6 HS7 HS8 Hg Hq0 Hh0 Hh1]
        · isplitl [HS0 HS1 HS2 HS3 HS4 HS5 HS6 HS7 HS8]
          · isplitl [HS0]; · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexists _; unfold owns; iexists _; isplitr
              swap; · iexact HS3
              ipureintro; rfl
            isplitl [HS4]
            · iexists _; unfold owns; iexists _; isplitr
              swap; · iexact HS4
              ipureintro; rfl
            isplitl [HS5]; · iexact HS5
            isplitl [HS6]
            · unfold owns; iexists _; isplitr
              swap; · iexact HS6
              ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            isplitl [HS7]
            · unfold owns; iexists _; isplitr
              swap; · iexact HS7
              ipureintro; exact View.read_writes_of_cover _ _ _ _ _ (scover0_B_7 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact HS8
          isplitl [Hg]
          · iexact Hg
          isplitl [Hq0]
          · iexact Hq0
          isplitl [Hh0]
          · iexact Hh0
          iexact Hh1
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]
        · unfold owns; iexists _; isplitr
          swap; · iexact H11
          ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Gen

end
-- ==== Proof.FrameRun.lean ====
/- The last part of the frame of the ideal kernel: the launch, its run and the frame. -/
module

public import proofs.«01_k».proof.Proof.FrameBody

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The results the body's copies out write, AFTER THE LAST POINT, as a valuation of the unscoped buffers: the launch contents,
    updated at each written operand with `outsAt0`'s component for the last point — what the launch takes back from the region
    (Lib/Pipeline/FrameValue.lean `θ_run_frame_dmaRG`'s `G`) and its post states of them. -/
def hbG0 (c : Dev nD) : (b : Ref sig .tc) → Buf (Elt F) ((c : Thread nD τ).loc b) :=
  Function.update ((V m) c) main_v8_0 (outsAt0 m c ((Fin.last cfg0.N).val - 1) (by rw [Fin.val_last]; have : cfg0.N = 74 := N_0; omega)).2.2.2.2.2.2.2.2
/-- `hbG0` at `main_v8_0`: `outsAt0`'s component. -/
theorem hbG0_1 (c : Dev nD) : hbG0 m c main_v8_0 = (outsAt0 m c ((Fin.last cfg0.N).val - 1) (by rw [Fin.val_last]; have : cfg0.N = 74 := N_0; omega)).2.2.2.2.2.2.2.2 := by
  unfold hbG0; simp only [Function.update_self]
/-- The written operands' points-tos after the last point (`Pipeline.routed` at `hbG`), listed: how the launch takes them back. -/
theorem heldG0_eq (c : Dev nD) :
    (Pipeline.routed R0 c (hbG0 m c) : sProp 𝕄) = iprop(hbPt0 c hbM0_1 ((outsAt0 m c ((Fin.last cfg0.N).val - 1) (by rw [Fin.val_last]; have : cfg0.N = 74 := N_0; omega)).2.2.2.2.2.2.2.2)) := by
  unfold Pipeline.routed; rw [BI.bigSep_eq_bigSepL_of_eq [main_v8_0] (by decide) (by decide)]
  simp only [BI.bigSepL_singleton, hbG0_1]; try rfl
/-- The invariant AFTER THE LAST POINT, `Pipeline.ΦDRG` at the launch contents and `hbG0`, conjunct by conjunct: what the launch takes back. -/
theorem PhiDRG0_out_eq (c : Dev nD) :
    (Pipeline.ΦDRG osem0 spec0 H0 R0 (V m) (hbG0 m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ iprop(semVal ((c : Thread nD τ), SemLoc.dma 21) 0) ∗ iprop(hbPt0 c hbM0_0 (V m c main_v1)) ∗ iprop(hbPt0 c hbM0_1 ((outsAt0 m c ((Fin.last cfg0.N).val - 1) (by rw [Fin.val_last]; have : cfg0.N = 74 := N_0; omega)).2.2.2.2.2.2.2.2))) := by
  rw [Pipeline.ΦDRG_eq, scopedRest0_eq, ownSems00_eq, hbmPts0_eq, heldG0_eq]; simp only [scM0_0, scM0_1, scM0_2, scM0_3, scM0_4, scM0_5, scM0_6, scM0_7, scM0_8, owns_whole]; try rfl

/-- What the launch hands the region (`ΦDRG`) is the invariant before the first point. -/
theorem hin (c : Dev nD) : Pipeline.ΦDRG osem0 spec0 H0 R0 (V m) (V m) c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives `ΦDRG` back with each result the copies out write at what that point left in it (`hbG0`);
    the carried scratch's named contents are forgotten. -/
theorem hout (c : Dev nD) : (dats m 0 c).Φ (Fin.last cfg0.N) ⊢ Pipeline.ΦDRG osem0 spec0 H0 R0 (V m) (hbG0 m) c := by
  rw [show (dats m 0 c).Φ (Fin.last cfg0.N) = PhiS m c (Fin.last cfg0.N).val (Nat.le_of_lt_succ (Fin.last cfg0.N).isLt) from by dsimp only [dats],
    PhiS_pos m c _ _ (by rw [Fin.val_last]; have : cfg0.N = 74 := N_0; omega), PhiDRG0_out_eq]
  iintro ⟨⟨HS0, HS1, HS2, HS3, HS4, HS5, HS6, HS7, HS8⟩, Hg, Hq0, Hh0, Hh1⟩
  isplitl [HS0 HS1 HS2 HS3 HS4 HS5 HS6 HS7 HS8]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexists _; iexact HS5
    isplitl [HS6]
    · iexists _; iexact HS6
    isplitl [HS7]
    · iexists _; iexact HS7
    iexact HS8
  isplitl [Hg]; · iexact Hg
  isplitl [Hq0]
  · iexact Hq0
  isplitl [Hh0]
  · iexact Hh0
  iexact Hh1

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (hbG0 m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := hbG0 m)
    (hin := hin m) (hout := hout m)

/-- At the compiled mesh, for any values, from any memory with zero counters: every weakly fair execution of @main on the
    TensorCores terminates, and every final state has every array of the pipeline at what the library computes from the
    proof data, every result the body's copies out write (`R0`) at what the last point left in it (`hbG0`), and every other unscoped
    buffer at its region-entry contents (Lib/Pipeline/FrameValue.lean `FramePostRG`). -/
theorem run_main : θ_run defs (onTc (τ := τ) (main (F := F))) (s₀ m ρ) (Pipeline.FramePostRG cfgs (dats m) 0 R0 (V m) (hbG0 m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.KernelFrame.lean ====
/- The frame of the program as written, read off the frame of the program read at exact arithmetic: that
   one is proved over any float values, and the two programs are one text. -/
module

public import proofs.«01_k».proof.Defs
public import proofs.«01_k».proof.Proof.KernelSame
public import proofs.«01_k».proof.Proof.FrameRun

@[expose] public section
set_option maxRecDepth 100000

noncomputable section
namespace Cert.Dora
open Idealize.ShloMosaic Idealize.SL.Sem

variable {F : FTy → Type} [FloatOps F]

set_option maxHeartbeats 4000000 in
/-- At a grid point and a choice of staging buffers, the two body tables hold the same body. -/
theorem label_same (t : Fin Cert.KernelIdeal.grid0.N) (s : (w : Fin 13) → Fin (Cert.KernelIdeal.win0 w).nbuf) :
    Cert.Kernel.defs₀ (F := F) .tc (0 : Fin 1) (t, s) = Cert.KernelIdeal.defs₀ (F := F) .tc (0 : Fin 1) (t, s) := by
  unfold Cert.Kernel.defs₀ Cert.KernelIdeal.defs₀
  rw [body_same]
  simp only [Defs.onTc_tc]
  congr 1

set_option maxHeartbeats 4000000 in
/-- The kernels' body tables are the same. -/
theorem table_same : @Cert.Kernel.defs₀ F _ _ = @Cert.KernelIdeal.defs₀ F _ _ := by
  funext p l a
  have hl : l = (0 : Fin 1) := Subsingleton.elim (α := Fin 1) _ _
  subst hl
  cases p with
  | tc => exact label_same a.1 a.2
  | _ => rfl

set_option maxHeartbeats 4000000 in
/-- The whole body tables, the pipeline's labels included, are the same. -/
theorem defs_same : Cert.Kernel.defs (F := F) = Cert.KernelIdeal.defs (F := F) := by
  unfold Cert.Kernel.defs Cert.KernelIdeal.defs
  rw [table_same]
  rfl

/-- The main functions are the same. -/
theorem main_same : Cert.Kernel.main (F := F) = Cert.KernelIdeal.main (F := F) := rfl

/-- The program as written runs, keeps its arguments, and ends with every semaphore at zero. -/
theorem kernel_frame : Cert.quiescent_Kernel := by
  intro m ρ _
  rw [defs_same, main_same]
  exact Cert.KernelIdeal.Gen.frame (F := Bits) m ρ

end Cert.Dora
end
end
-- ==== Proof.Pieces.lean ====
module

public import proofs.«01_k».proof.Proof.FrameCover
public import Idealize.ShloMosaic.Lib.Pointwise
public import Idealize.ShloMosaic.Lib.Pipeline.Value

@[expose] public section
set_option maxRecDepth 16384

/-! # The dequantized weight block of one step

The body rebuilds the effective weight of its 256 output columns in fourteen stores of 256 rows. Here the fourteen
stores are shown to be one function of the row and the column: code times group scale plus half the low-rank product. -/

noncomputable section
namespace Cert.Dora
open Idealize.ShloMosaic Idealize.ShloMosaic.TcCoe Idealize.ShloMosaic.Tactic Idealize.SL.Sem
open Cert.KernelIdeal Cert.KernelIdeal.Gen

/-- The offset of a whole two-axis block. -/
theorem hz : (![0, 0] : Fin 2 → Nat) = fun _ => 0 := funext fun a => by fin_cases a <;> rfl

/-- The constant one half, as the programs write it. -/
abbrev half : EReal := Ideal.ofBits FTy.f32 0x3F000000#32

/-- The signed four-bit code in a packed byte: the low nibble for an even row, the high nibble for an odd row. -/
def code (w : BitVec 8) (p : ℕ) : EReal :=
  FloatOps.sitofp (F := Ideal) FTy.bf16
    (if p % 2 < 1 then IntOp.shrsi ArithUnit.vector (IntOp.shli ArithUnit.vector (BitVec.setWidth 32 w) 28#32) 28#32
      else IntOp.shrsi ArithUnit.vector (IntOp.shli ArithUnit.vector (BitVec.setWidth 32 w) 24#32) 28#32)

/-- The effective weight at feature `i` and column `o` of a step's block: code times group scale, plus half the
    low-rank product. -/
def wval {m : ℕ} (pk : (⟨2, ![1792, m]⟩ : Shape).Idx → BitVec 8) (sc : (⟨2, ![28, m]⟩ : Shape).Idx → EReal)
    (a : S3584x64.Idx → EReal) (b : (⟨2, ![64, m]⟩ : Shape).Idx → EReal) (i : Fin 3584) (o : Fin m) : EReal :=
  code (pk (ix2 ⟨i.val / 2, by omega⟩ o)) i.val * sc (ix2 ⟨i.val / 128, by omega⟩ o)
    + half * ∑ r : Fin 64, a (ix2 i r) * b (ix2 r o)

/-- The weight block of a step. -/
def vblk (pk : Vec Ideal S1792x256 .i8) (sc : Vec Ideal S28x256 .f32) (a : Vec Ideal S3584x64 .bf16)
    (b : Vec Ideal S64x256 .bf16) : Vec Ideal S3584x256 .bf16 :=
  fun y => wval (m := 256) pk sc a b (y 0) (y 1)

/-- One store of 256 rows, read at a row and a column of the store. -/
theorem piece_apply (b : Vec Ideal S64x256 .bf16) (pk : Vec Ideal S128x256 .i8) (sc : Vec Ideal S2x256 .f32)
    (a : Vec Ideal S256x64 .bf16) (i : Fin 256) (o : Fin 256) :
    k0_pay33 b pk sc a (ix2 i o)
      = code (pk (ix2 ⟨i.val / 2, by omega⟩ o)) i.val * sc (ix2 ⟨i.val / 128, by omega⟩ o)
        + half * ∑ r : Fin 64, a (ix2 i r) * b (ix2 r o) := by
  unfold k0_pay33
  pointwise
  congr 1
  unfold code
  have e1 : ∀ h : 128 ≤ i.val, 128 + (i.val - 128) = i.val := fun h => by omega
  by_cases h : i.val < 128
  · rw [dif_pos h]
    have : (⟨i.val / 128, by omega⟩ : Fin 2) = 0 := Fin.ext (show i.val / 128 = 0 by omega)
    rw [this]
    rfl
  · rw [dif_neg h]
    have : (⟨i.val / 128, by omega⟩ : Fin 2) = 1 := Fin.ext (show i.val / 128 = 1 by omega)
    rw [this]
    simp only [e1 (by omega)]
    rfl

/-- One store over its own rows of the packed codes, the scales and the factor: the weight block at those rows. -/
theorem piece_ld (b : Vec Ideal S64x256 .bf16) (pk : Vec Ideal S1792x256 .i8) (sc : Vec Ideal S28x256 .f32)
    (a : Vec Ideal S3584x64 .bf16) (k p q r : ℕ) (hp : p = 128 * k) (hq : q = 2 * k) (hr : r = 256 * k)
    (ip : ∀ d, (![p, 0] : Fin 2 → Nat) d + (![128, 256] : Fin 2 → Nat) d ≤ S1792x256.size d)
    (iq : ∀ d, (![q, 0] : Fin 2 → Nat) d + (![2, 256] : Fin 2 → Nat) d ≤ S28x256.size d)
    (ir : ∀ d, (![r, 0] : Fin 2 → Nat) d + (![256, 64] : Fin 2 → Nat) d ≤ S3584x64.size d)
    (iv : ∀ d, (![r, 0] : Fin 2 → Nat) d + (![256, 256] : Fin 2 → Nat) d ≤ S3584x256.size d)
    (x : S256x256.Idx) :
    k0_pay33 b (View.ld pk (Rect.unit ![p, 0] ![128, 256] ip)) (View.ld sc (Rect.unit ![q, 0] ![2, 256] iq))
        (View.ld a (Rect.unit ![r, 0] ![256, 64] ir)) x
      = vblk pk sc a b ((Rect.unit (s := S3584x256) ![r, 0] ![256, 256] iv).emb x) := by
  obtain ⟨i, o, rfl⟩ : ∃ i o, x = ix2 i o := ⟨x 0, x 1, by pointwise⟩
  have hk : r + 256 ≤ 3584 := iv 0
  have ev : (Rect.unit (s := S3584x256) ![r, 0] ![256, 256] iv).emb (ix2 i o) = ix2 ⟨r + i.val, by omega⟩ o := by
    funext d; apply Fin.ext
    match d with
    | ⟨0, _⟩ => show r + 1 * (i.val) = r + i.val; omega
    | ⟨1, _⟩ => show 0 + 1 * (o.val) = o.val; omega
  rw [piece_apply, ev]
  show _ = wval (m := 256) pk sc a b ⟨r + i.val, by omega⟩ o
  unfold wval
  have ep : View.ld pk (Rect.unit ![p, 0] ![128, 256] ip) (ix2 ⟨i.val / 2, by omega⟩ o)
      = pk (ix2 ⟨(r + i.val) / 2, by omega⟩ o) := by
    show pk _ = _
    congr 1
    funext d; apply Fin.ext
    match d with
    | ⟨0, _⟩ => show p + 1 * (i.val / 2) = (r + i.val) / 2; omega
    | ⟨1, _⟩ => show 0 + 1 * (o.val) = o.val; omega
  have eq : View.ld sc (Rect.unit ![q, 0] ![2, 256] iq) (ix2 ⟨i.val / 128, by omega⟩ o)
      = sc (ix2 ⟨(r + i.val) / 128, by omega⟩ o) := by
    show sc _ = _
    congr 1
    funext d; apply Fin.ext
    match d with
    | ⟨0, _⟩ => show q + 1 * (i.val / 128) = (r + i.val) / 128; omega
    | ⟨1, _⟩ => show 0 + 1 * (o.val) = o.val; omega
  have ea : ∀ t : Fin 64, View.ld a (Rect.unit ![r, 0] ![256, 64] ir) (ix2 i t) = a (ix2 ⟨r + i.val, by omega⟩ t) := by
    intro t
    show a _ = _
    congr 1
    funext d; apply Fin.ext
    match d with
    | ⟨0, _⟩ => show r + 1 * (i.val) = r + i.val; omega
    | ⟨1, _⟩ => show 0 + 1 * (t.val) = t.val; omega
  have ec : ∀ w, code w i.val = code w (r + i.val) := by
    intro w; unfold code; rw [show (r + i.val) % 2 = i.val % 2 by omega]
  rw [ep, eq, ec]
  simp only [ea]

/-- The fourteen stores together leave the weight block. -/
theorem v_read {sp : Space} (v : View sig .tc sp S3584x256 .bf16) (x3 : Vec Ideal S1792x256 .i8) (x4 : Vec Ideal S28x256 .f32)
    (x5 : Vec Ideal S3584x64 .bf16) (x7 : Vec Ideal S64x256 .bf16) :
    v.readCov
      [⟨Rect.unit ![3328, 0] ![256, 256] inb_S3584x256_S256x256_3328_0,
            k0_pay62 x7 (k0_pay60 (View.ld x3 (Rect.unit ![1664, 0] ![128, 256] inb_S1792x256_S128x256_1664_0)))
              (k0_pay61 (View.ld x4 (Rect.unit ![26, 0] ![2, 256] inb_S28x256_S2x256_26_0)))
              (View.ld x5 (Rect.unit ![3328, 0] ![256, 64] inb_S3584x64_S256x64_3328_0))⟩,
          ⟨Rect.unit ![3072, 0] ![256, 256] inb_S3584x256_S256x256_3072_0,
            k0_pay59 x7 (k0_pay57 (View.ld x3 (Rect.unit ![1536, 0] ![128, 256] inb_S1792x256_S128x256_1536_0)))
              (k0_pay58 (View.ld x3 (Rect.unit ![1536, 0] ![128, 256] inb_S1792x256_S128x256_1536_0)))
              (View.ld x4 (Rect.unit ![24, 0] ![2, 256] inb_S28x256_S2x256_24_0))
              (View.ld x5 (Rect.unit ![3072, 0] ![256, 64] inb_S3584x64_S256x64_3072_0))⟩,
          ⟨Rect.unit ![2816, 0] ![256, 256] inb_S3584x256_S256x256_2816_0,
            k0_pay55 x7 (k0_pay53 (View.ld x3 (Rect.unit ![1408, 0] ![128, 256] inb_S1792x256_S128x256_1408_0)))
              (k0_pay54 (View.ld x3 (Rect.unit ![1408, 0] ![128, 256] inb_S1792x256_S128x256_1408_0)))
              (View.ld x4 (Rect.unit ![22, 0] ![2, 256] inb_S28x256_S2x256_22_0))
              (View.ld x5 (Rect.unit ![2816, 0] ![256, 64] inb_S3584x64_S256x64_2816_0))⟩,
          ⟨Rect.unit ![2560, 0] ![256, 256] inb_S3584x256_S256x256_2560_0,
            k0_pay52 x7 (View.ld x3 (Rect.unit ![1280, 0] ![128, 256] inb_S1792x256_S128x256_1280_0))
              (View.ld x4 (Rect.unit ![20, 0] ![2, 256] inb_S28x256_S2x256_20_0))
              (View.ld x5 (Rect.unit ![2560, 0] ![256, 64] inb_S3584x64_S256x64_2560_0))⟩,
          ⟨Rect.unit ![2304, 0] ![256, 256] inb_S3584x256_S256x256_2304_0,
            k0_pay51 x7 (View.ld x3 (Rect.unit ![1152, 0] ![128, 256] inb_S1792x256_S128x256_1152_0))
              (View.ld x4 (Rect.unit ![18, 0] ![2, 256] inb_S28x256_S2x256_18_0))
              (View.ld x5 (Rect.unit ![2304, 0] ![256, 64] inb_S3584x64_S256x64_2304_0))⟩,
          ⟨Rect.unit ![2048, 0] ![256, 256] inb_S3584x256_S256x256_2048_0,
            k0_pay50
              (k0_pay49 x7 (View.ld x3 (Rect.unit ![1024, 0] ![128, 256] inb_S1792x256_S128x256_1024_0))
                (View.ld x4 (Rect.unit ![16, 0] ![2, 256] inb_S28x256_S2x256_16_0))
                (View.ld x5 (Rect.unit ![2048, 0] ![256, 64] inb_S3584x64_S256x64_2048_0)))⟩,
          ⟨Rect.unit ![1792, 0] ![256, 256] inb_S3584x256_S256x256_1792_0,
            k0_pay48 x7
              (k0_pay47 (View.ld x3 (Rect.unit ![896, 0] ![128, 256] inb_S1792x256_S128x256_896_0))
                (View.ld x4 (Rect.unit ![14, 0] ![2, 256] inb_S28x256_S2x256_14_0)))
              (View.ld x5 (Rect.unit ![1792, 0] ![256, 64] inb_S3584x64_S256x64_1792_0))⟩,
          ⟨Rect.unit ![1536, 0] ![256, 256] inb_S3584x256_S256x256_1536_0,
            k0_pay46 x7 (k0_pay43 (View.ld x3 (Rect.unit ![768, 0] ![128, 256] inb_S1792x256_S128x256_768_0)))
              (k0_pay44 (View.ld x4 (Rect.unit ![12, 0] ![2, 256] inb_S28x256_S2x256_12_0)))
              (k0_pay45 (View.ld x3 (Rect.unit ![768, 0] ![128, 256] inb_S1792x256_S128x256_768_0))
                (View.ld x4 (Rect.unit ![12, 0] ![2, 256] inb_S28x256_S2x256_12_0)))
              (View.ld x5 (Rect.unit ![1536, 0] ![256, 64] inb_S3584x64_S256x64_1536_0))⟩,
          ⟨Rect.unit ![1280, 0] ![256, 256] inb_S3584x256_S256x256_1280_0,
            k0_pay42 x7 (k0_pay41 (View.ld x3 (Rect.unit ![640, 0] ![128, 256] inb_S1792x256_S128x256_640_0)))
              (View.ld x4 (Rect.unit ![10, 0] ![2, 256] inb_S28x256_S2x256_10_0))
              (View.ld x5 (Rect.unit ![1280, 0] ![256, 64] inb_S3584x64_S256x64_1280_0))⟩,
          ⟨Rect.unit ![1024, 0] ![256, 256] inb_S3584x256_S256x256_1024_0,
            k0_pay40 x7 (k0_pay38 (View.ld x3 (Rect.unit ![512, 0] ![128, 256] inb_S1792x256_S128x256_512_0)))
              (k0_pay39 (View.ld x3 (Rect.unit ![512, 0] ![128, 256] inb_S1792x256_S128x256_512_0))) (28#32)
              (View.ld x4 (Rect.unit ![8, 0] ![2, 256] inb_S28x256_S2x256_8_0))
              (View.ld x5 (Rect.unit ![1024, 0] ![256, 64] inb_S3584x64_S256x64_1024_0))⟩,
          ⟨Rect.unit ![768, 0] ![256, 256] inb_S3584x256_S256x256_768_0,
            k0_pay36 x7 (k0_pay34 (View.ld x3 (Rect.unit ![384, 0] ![128, 256] inb_S1792x256_S128x256_384_0))) k0_pay35
              (View.ld x4 (Rect.unit ![6, 0] ![2, 256] inb_S28x256_S2x256_6_0))
              (View.ld x5 (Rect.unit ![768, 0] ![256, 64] inb_S3584x64_S256x64_768_0))⟩,
          ⟨Rect.unit ![512, 0] ![256, 256] inb_S3584x256_S256x256_512_0,
            k0_pay33 x7 (View.ld x3 (Rect.unit ![256, 0] ![128, 256] inb_S1792x256_S128x256_256_0))
              (View.ld x4 (Rect.unit ![4, 0] ![2, 256] inb_S28x256_S2x256_4_0))
              (View.ld x5 (Rect.unit ![512, 0] ![256, 64] inb_S3584x64_S256x64_512_0))⟩,
          ⟨Rect.unit ![256, 0] ![256, 256] inb_S3584x256_S256x256_256_0,
            k0_pay32
              (k0_pay31 x7 (View.ld x3 (Rect.unit ![128, 0] ![128, 256] inb_S1792x256_S128x256_128_0))
                (View.ld x4 (Rect.unit ![2, 0] ![2, 256] inb_S28x256_S2x256_2_0))
                (View.ld x5 (Rect.unit ![256, 0] ![256, 64] inb_S3584x64_S256x64_256_0)))⟩,
          ⟨Rect.unit ![0, 0] ![256, 256] inb_S3584x256_S256x256_0_0,
            k0_pay30 (k0_pay28 x7 (View.ld x5 (Rect.unit ![0, 0] ![256, 64] inb_S3584x64_S256x64_0_0)))
              (k0_pay29 (View.ld x3 (Rect.unit ![0, 0] ![128, 256] inb_S1792x256_S128x256_0_0))
                (View.ld x4 (Rect.unit ![0, 0] ![2, 256] inb_S28x256_S2x256_0_0)))
              (FloatOps.ofBits FTy.f32 1056964608#32)⟩]
      (Rect.unit ![0, 0] ![3584, 256] inb_S3584x256_S3584x256_0_0).toLoadRect = vblk x3 x4 x5 x7 := by
  rw [View.readCov_eq_canon_ld _ _ _ (View.cover_of_tiledL _ ![256, 256] (by sl_kernel_rfl)), View.ld_unit_zero (S := S3584x256) hz]
  funext y
  refine View.canon_apply_of_pieces (vblk x3 x4 x5 x7) _ ?_ y (View.cover_of_tiledL _ ![256, 256] (by sl_kernel_rfl) y)
  intro p hp x
  simp only [List.mem_cons, List.not_mem_nil, or_false] at hp
  rcases hp with rfl | rfl | rfl | rfl | rfl | rfl | rfl | rfl | rfl | rfl | rfl | rfl | rfl | rfl
  · exact piece_ld x7 x3 x4 x5 13 _ _ _ rfl rfl rfl inb_S1792x256_S128x256_1664_0 inb_S28x256_S2x256_26_0
      inb_S3584x64_S256x64_3328_0 inb_S3584x256_S256x256_3328_0 x
  · exact piece_ld x7 x3 x4 x5 12 _ _ _ rfl rfl rfl inb_S1792x256_S128x256_1536_0 inb_S28x256_S2x256_24_0
      inb_S3584x64_S256x64_3072_0 inb_S3584x256_S256x256_3072_0 x
  · exact piece_ld x7 x3 x4 x5 11 _ _ _ rfl rfl rfl inb_S1792x256_S128x256_1408_0 inb_S28x256_S2x256_22_0
      inb_S3584x64_S256x64_2816_0 inb_S3584x256_S256x256_2816_0 x
  · exact piece_ld x7 x3 x4 x5 10 _ _ _ rfl rfl rfl inb_S1792x256_S128x256_1280_0 inb_S28x256_S2x256_20_0
      inb_S3584x64_S256x64_2560_0 inb_S3584x256_S256x256_2560_0 x
  · exact piece_ld x7 x3 x4 x5 9 _ _ _ rfl rfl rfl inb_S1792x256_S128x256_1152_0 inb_S28x256_S2x256_18_0
      inb_S3584x64_S256x64_2304_0 inb_S3584x256_S256x256_2304_0 x
  · exact piece_ld x7 x3 x4 x5 8 _ _ _ rfl rfl rfl inb_S1792x256_S128x256_1024_0 inb_S28x256_S2x256_16_0
      inb_S3584x64_S256x64_2048_0 inb_S3584x256_S256x256_2048_0 x
  · exact piece_ld x7 x3 x4 x5 7 _ _ _ rfl rfl rfl inb_S1792x256_S128x256_896_0 inb_S28x256_S2x256_14_0
      inb_S3584x64_S256x64_1792_0 inb_S3584x256_S256x256_1792_0 x
  · exact piece_ld x7 x3 x4 x5 6 _ _ _ rfl rfl rfl inb_S1792x256_S128x256_768_0 inb_S28x256_S2x256_12_0
      inb_S3584x64_S256x64_1536_0 inb_S3584x256_S256x256_1536_0 x
  · exact piece_ld x7 x3 x4 x5 5 _ _ _ rfl rfl rfl inb_S1792x256_S128x256_640_0 inb_S28x256_S2x256_10_0
      inb_S3584x64_S256x64_1280_0 inb_S3584x256_S256x256_1280_0 x
  · exact piece_ld x7 x3 x4 x5 4 _ _ _ rfl rfl rfl inb_S1792x256_S128x256_512_0 inb_S28x256_S2x256_8_0
      inb_S3584x64_S256x64_1024_0 inb_S3584x256_S256x256_1024_0 x
  · exact piece_ld x7 x3 x4 x5 3 _ _ _ rfl rfl rfl inb_S1792x256_S128x256_384_0 inb_S28x256_S2x256_6_0
      inb_S3584x64_S256x64_768_0 inb_S3584x256_S256x256_768_0 x
  · exact piece_ld x7 x3 x4 x5 2 _ _ _ rfl rfl rfl inb_S1792x256_S128x256_256_0 inb_S28x256_S2x256_4_0
      inb_S3584x64_S256x64_512_0 inb_S3584x256_S256x256_512_0 x
  · exact piece_ld x7 x3 x4 x5 1 _ _ _ rfl rfl rfl inb_S1792x256_S128x256_128_0 inb_S28x256_S2x256_2_0
      inb_S3584x64_S256x64_256_0 inb_S3584x256_S256x256_256_0 x
  · exact piece_ld x7 x3 x4 x5 0 _ _ _ rfl rfl rfl inb_S1792x256_S128x256_0_0 inb_S28x256_S2x256_0_0
      inb_S3584x64_S256x64_0_0 inb_S3584x256_S256x256_0_0 x

end Cert.Dora
end
-- ==== Proof.StepDefs.lean ====
module

public import proofs.«01_k».proof.Proof.Pieces

@[expose] public section
set_option maxRecDepth 16384
/-! # What one step leaves, opened

Each named content of a step — the scratch arrays it carries on, the blocks it writes out — is read here as one
function of the step's blocks and of what the step before left. -/

noncomputable section
namespace Cert.Dora
open Idealize.ShloMosaic Idealize.ShloMosaic.TcCoe Idealize.ShloMosaic.Tactic Idealize.SL.Sem
open Cert.KernelIdeal Cert.KernelIdeal.Gen

/-- A load of any rectangle after one store of the whole array reads the stored array there. -/
theorem readCov_ld_corr {sp : Space} (inb : ∀ a, (![0, 0] : Fin 2 → Nat) a + S64x3584.size a ≤ S64x3584.size a)
    (v : View sig .tc sp S64x3584 .f32) (w : Vec Ideal S64x3584 .f32) (r : Rect S64x3584) :
    v.readCov [⟨Rect.unit ![0, 0] ![64, 3584] inb, w⟩] r.toLoadRect = View.ld w r := by
  rw [View.readCov_eq_canon_ld _ _ _ (View.cover_of_tiledL _ ![64, 3584] (by sl_kernel_rfl)),
    View.canon_cons_unit_zero (S := S64x3584) hz]

/-- The same for the accumulator of the first result. -/
theorem readCov_ld_acc {sp : Space} (inb : ∀ a, (![0, 0] : Fin 2 → Nat) a + S1920x3584.size a ≤ S1920x3584.size a)
    (v : View sig .tc sp S1920x3584 .f32) (w : Vec Ideal S1920x3584 .f32) (r : Rect S1920x3584) :
    v.readCov [⟨Rect.unit ![0, 0] ![1920, 3584] inb, w⟩] r.toLoadRect = View.ld w r := by
  rw [View.readCov_eq_canon_ld _ _ _ (View.cover_of_tiledL _ ![1920, 3584] (by sl_kernel_rfl)),
    View.canon_cons_unit_zero (S := S1920x3584) hz]

/-- Reading the whole array after a copy filled it reads what was copied. -/
theorem readCov_copy {sp : Space} (inb : ∀ a, (![0, 0] : Fin 2 → Nat) a + S1920x3584.size a ≤ S1920x3584.size a)
    (v : View sig .tc sp S1920x3584 .fp8e4m3) (w : Vec Ideal S1920x3584 .fp8e4m3) :
    v.readCov [⟨Rect.whole S1920x3584, w⟩] (Rect.unit ![0, 0] ![1920, 3584] inb).toLoadRect = w := by
  rw [View.readCov_eq_canon_ld _ _ _ (View.cover_of_tiledL _ ![1920, 3584] (by sl_kernel_rfl)),
    View.ld_unit_zero (S := S1920x3584) hz]
  exact View.canon_cons_unit_zero (S := S1920x3584) rfl _ _ _

/-- The activation codes, converted to the working type. -/
def xB (f : Vec Ideal S1920x3584 .fp8e4m3) : Vec Ideal S1920x3584 .bf16 := k0_pay21 f
/-- The adapter's activations: factor times activations, scaled token by token. -/
def xatB (x6 : Vec Ideal S64x3584 .bf16) (x : Vec Ideal S1920x3584 .bf16) (x2 : Vec Ideal S1x1920 .f32) :
    Vec Ideal S64x1920 .bf16 := k0_pay22 x6 x x2
/-- The incoming gradient of the step's columns times magnitude over norm. -/
def dypB (x0 : Vec Ideal S1920x256 .bf16) (x8 x9 : Vec Ideal S1x256 .f32) : Vec Ideal S1920x256 .bf16 :=
  k0_pay63 (k0_pay26 x8) (k0_pay27 x9) x0
/-- The magnitude gradient of the step's columns. -/
def dmB (x : Vec Ideal S1920x3584 .bf16) (v : Vec Ideal S3584x256 .bf16) (x0 : Vec Ideal S1920x256 .bf16)
    (x1 : Vec Ideal S1920x1 .f32) (x9 : Vec Ideal S1x256 .f32) : Vec Ideal S1x256 .f32 :=
  k0_pay66 (k0_pay27 x9) (k0_pay64 x0) (k0_pay65 x v x1)
/-- The norm's correction weight: the weight block times the correction factor of its column. -/
def vcB (x : Vec Ideal S1920x3584 .bf16) (v : Vec Ideal S3584x256 .bf16) (x0 : Vec Ideal S1920x256 .bf16)
    (x1 : Vec Ideal S1920x1 .f32) (x8 x9 : Vec Ideal S1x256 .f32) : Vec Ideal S3584x256 .bf16 :=
  k0_pay69 (k0_pay26 x8) (k0_pay27 x9) (k0_pay64 x0) (k0_pay65 x v x1) v
/-- The accumulator of the first result after the step. -/
def accB (acc : Vec Ideal S1920x3584 .f32) (v : Vec Ideal S3584x256 .bf16) (x0 : Vec Ideal S1920x256 .bf16)
    (x8 x9 : Vec Ideal S1x256 .f32) : Vec Ideal S1920x3584 .f32 := k0_pay67 acc (dypB x0 x8 x9) v
/-- The accumulator of the adapter's hidden gradient after the step. -/
def htB (ht : Vec Ideal S64x1920 .f32) (x7 : Vec Ideal S64x256 .bf16) (x0 : Vec Ideal S1920x256 .bf16)
    (x8 x9 : Vec Ideal S1x256 .f32) : Vec Ideal S64x1920 .f32 := k0_pay68 x7 ht (dypB x0 x8 x9)
/-- The accumulator of the norm's correction after the step. -/
def corrB (corr : Vec Ideal S64x3584 .f32) (x : Vec Ideal S1920x3584 .bf16) (v : Vec Ideal S3584x256 .bf16)
    (x7 : Vec Ideal S64x256 .bf16) (x0 : Vec Ideal S1920x256 .bf16) (x1 : Vec Ideal S1920x1 .f32)
    (x8 x9 : Vec Ideal S1x256 .f32) : Vec Ideal S64x3584 .f32 := k0_pay1 x7 corr (vcB x v x0 x1 x8 x9)
/-- The gradient of the adapter's second factor at the step's columns. -/
def dbB (x : Vec Ideal S1920x3584 .bf16) (v : Vec Ideal S3584x256 .bf16) (xat : Vec Ideal S64x1920 .bf16)
    (x6 : Vec Ideal S64x3584 .bf16) (x0 : Vec Ideal S1920x256 .bf16) (x1 : Vec Ideal S1920x1 .f32)
    (x8 x9 : Vec Ideal S1x256 .f32) : Vec Ideal S64x256 .bf16 :=
  k0_pay2 xat (dypB x0 x8 x9) x6 (vcB x v x0 x1 x8 x9)
/-- The gradient of the adapter's first factor, transposed, from the finished accumulators. -/
def datB (ht : Vec Ideal S64x1920 .f32) (corr : Vec Ideal S64x3584 .f32) (x : Vec Ideal S1920x3584 .bf16)
    (x1 : Vec Ideal S1920x1 .f32) : Vec Ideal S64x3584 .bf16 :=
  fun y => half * (∑ t : Fin 1920, ht (ix2 (y 0) t) * (x (ix2 t (y 1)) * x1 (ix2 t 0)) - corr (ix2 (y 0) (y 1)))

/-- One store of 512 columns of it. -/
theorem dat_piece (ht : Vec Ideal S64x1920 .f32) (corr : Vec Ideal S64x3584 .f32) (x : Vec Ideal S1920x3584 .bf16)
    (x1 : Vec Ideal S1920x1 .f32) (q : ℕ)
    (ix : ∀ d, (![0, q] : Fin 2 → Nat) d + (![1920, 512] : Fin 2 → Nat) d ≤ S1920x3584.size d)
    (iw : ∀ d, (![0, q] : Fin 2 → Nat) d + (![64, 512] : Fin 2 → Nat) d ≤ S64x3584.size d)
    (y : S64x512.Idx) :
    k0_pay8 ht x1 (View.ld x (Rect.unit ![0, q] ![1920, 512] ix)) (View.ld corr (Rect.unit ![0, q] ![64, 512] iw)) y
      = datB ht corr x x1 ((Rect.unit (s := S64x3584) ![0, q] ![64, 512] iw).emb y) := by
  obtain ⟨i, o, rfl⟩ : ∃ i o, y = ix2 i o := ⟨y 0, y 1, by pointwise⟩
  have hk : q + 512 ≤ 3584 := iw 1
  have ev : (Rect.unit (s := S64x3584) ![0, q] ![64, 512] iw).emb (ix2 i o) = ix2 i ⟨q + o.val, by omega⟩ := by
    funext d; apply Fin.ext
    match d with
    | ⟨0, _⟩ => show 0 + 1 * (i.val) = i.val; omega
    | ⟨1, _⟩ => show q + 1 * (o.val) = q + o.val; omega
  rw [ev]
  unfold datB k0_pay8 k0_pay6 k0_pay7
  pointwise

/-- The first result from its finished accumulator. -/
def dxB (acc : Vec Ideal S1920x3584 .f32) : Vec Ideal S1920x3584 .bf16 := fun y => acc y

/-- One store of 512 columns of the finished first result. -/
theorem x_piece (acc : Vec Ideal S1920x3584 .f32) (q : ℕ)
    (ix : ∀ d, (![0, q] : Fin 2 → Nat) d + (![1920, 512] : Fin 2 → Nat) d ≤ S1920x3584.size d)
    (y : S1920x512.Idx) :
    k0_pay9 (View.ld acc (Rect.unit ![0, q] ![1920, 512] ix)) y
      = dxB acc ((Rect.unit (s := S1920x3584) ![0, q] ![1920, 512] ix).emb y) := by
  obtain ⟨i, o, rfl⟩ : ∃ i o, y = ix2 i o := ⟨y 0, y 1, by pointwise⟩
  have hk : q + 512 ≤ 3584 := ix 1
  have ev : (Rect.unit (s := S1920x3584) ![0, q] ![1920, 512] ix).emb (ix2 i o) = ix2 i ⟨q + o.val, by omega⟩ := by
    funext d; apply Fin.ext
    match d with
    | ⟨0, _⟩ => show 0 + 1 * (i.val) = i.val; omega
    | ⟨1, _⟩ => show q + 1 * (o.val) = q + o.val; omega
  rw [ev]
  unfold k0_pay9 dxB
  pointwise

end Cert.Dora
end
-- ==== Proof.OpenA.lean ====
module

public import proofs.«01_k».proof.Proof.StepDefs

@[expose] public section
set_option maxRecDepth 16384
/-! # What one step leaves, opened

Each named content of a step — the scratch arrays it carries on, the blocks it writes out — is read here as one
function of the step's blocks and of what the step before left. -/

noncomputable section
namespace Cert.Dora
open Idealize.ShloMosaic Idealize.ShloMosaic.TcCoe Idealize.ShloMosaic.Tactic Idealize.SL.Sem
open Cert.KernelIdeal Cert.KernelIdeal.Gen

section
variable (c : Dev nD) (i : grid0.Coords) (arg1 : Memref sig .tc .vmem S1920x256 .bf16) (harg1 : arg1.IsWhole)
   (arg3 : Memref sig .tc .vmem S1920x1 .f32) (harg3 : arg3.IsWhole) (arg4 : Memref sig .tc .vmem S1x1920 .f32)
   (harg4 : arg4.IsWhole) (arg5 : Memref sig .tc .vmem S1792x256 .i8) (harg5 : arg5.IsWhole)
   (arg6 : Memref sig .tc .vmem S28x256 .f32) (harg6 : arg6.IsWhole) (arg7 : Memref sig .tc .vmem S3584x64 .bf16)
   (harg7 : arg7.IsWhole) (arg8 : Memref sig .tc .vmem S64x3584 .bf16) (harg8 : arg8.IsWhole)
   (arg9 : Memref sig .tc .vmem S64x256 .bf16) (harg9 : arg9.IsWhole) (arg10 : Memref sig .tc .vmem S1x256 .f32)
   (harg10 : arg10.IsWhole) (arg11 : Memref sig .tc .vmem S1x256 .f32) (harg11 : arg11.IsWhole)
   (arg13 : Memref sig .tc .vmem S64x3584 .bf16) (harg13 : arg13.IsWhole) (arg14 : Memref sig .tc .vmem S64x256 .bf16)
   (harg14 : arg14.IsWhole) (arg15 : Memref sig .tc .vmem S1x256 .f32) (harg15 : arg15.IsWhole)
   (arg16 : Memref sig .tc .vmem S1920x3584 .bf16) (harg16 : arg16.IsWhole) (arg17 : Memref sig .tc .vmem S1920x3584 .f32)
   (harg17 : arg17.IsWhole) (arg18 : Memref sig .tc .vmem S3584x256 .bf16) (harg18 : arg18.IsWhole)
   (arg19 : Memref sig .tc .vmem S3584x256 .bf16) (harg19 : arg19.IsWhole) (arg20 : Memref sig .tc .vmem S1920x256 .bf16)
   (harg20 : arg20.IsWhole) (arg21 : Memref sig .tc .vmem S64x1920 .bf16) (harg21 : arg21.IsWhole)
   (arg22 : Memref sig .tc .vmem S64x1920 .f32) (harg22 : arg22.IsWhole) (arg23 : Memref sig .tc .vmem S64x3584 .f32)
   (harg23 : arg23.IsWhole) (arg25 : Memref sig .tc .vmem S1920x3584 .fp8e4m3) (harg25 : arg25.IsWhole) (hc0 : cond0_0 i)
   (hc1 : ¬cond0_1 i)
variable (x0 : Vec Ideal S1920x256 .bf16) (x1 : Vec Ideal S1920x1 .f32) (x2 : Vec Ideal S1x1920 .f32)
   (x3 : Vec Ideal S1792x256 .i8) (x4 : Vec Ideal S28x256 .f32) (x5 : Vec Ideal S3584x64 .bf16) (x6 : Vec Ideal S64x3584 .bf16)
   (x7 : Vec Ideal S64x256 .bf16) (x8 : Vec Ideal S1x256 .f32) (x9 : Vec Ideal S1x256 .f32) (fh0 : HbBuf0 (F := Ideal) c hbM0_0)
   (fw1 : HbBuf0 (F := Ideal) c hbM0_1)

/-- After the first step: the gradient of the adapter's second factor. -/
theorem out0_A_11_eq : out0_A_11 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = dbB (xB fh0) (vblk x3 x4 x5 x7) (xatB x6 (xB fh0) x2) x6 x0 x1 x8 x9 := by
  unfold out0_A_11
  rw [View.read_writes_eq_canon _ _ _ (cover0_A_11 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the first step: the magnitude gradient. -/
theorem out0_A_12_eq : out0_A_12 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = dmB (xB fh0) (vblk x3 x4 x5 x7) x0 x1 x9 := by
  unfold out0_A_12
  rw [View.read_writes_eq_canon _ _ _ (cover0_A_12 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the first step: the activations scratch. -/
theorem sout0_A_0_eq : sout0_A_0 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = xB fh0 := by
  unfold sout0_A_0
  rw [View.read_writes_eq_canon _ _ _ (scover0_A_0 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the first step: the accumulator of the first result. -/
theorem sout0_A_1_eq : sout0_A_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = accB (k0_pay23 (F := Ideal)) (vblk x3 x4 x5 x7) x0 x8 x9 := by
  unfold sout0_A_1
  rw [View.read_writes_eq_canon _ _ _ (scover0_A_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the first step: the adapter's activations. -/
theorem sout0_A_5_eq : sout0_A_5 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = xatB x6 (xB fh0) x2 := by
  unfold sout0_A_5
  rw [View.read_writes_eq_canon _ _ _ (scover0_A_5 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the first step: the accumulator of the hidden gradient. -/
theorem sout0_A_6_eq : sout0_A_6 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = htB (k0_pay24 (F := Ideal)) x7 x0 x8 x9 := by
  unfold sout0_A_6
  rw [View.read_writes_eq_canon _ _ _ (scover0_A_6 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the first step: the accumulator of the correction. -/
theorem sout0_A_7_eq : sout0_A_7 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1
    = corrB (k0_pay25 (F := Ideal)) (xB fh0) (vblk x3 x4 x5 x7) x7 x0 x1 x8 x9 := by
  unfold sout0_A_7
  rw [View.read_writes_eq_canon _ _ _ (scover0_A_7 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 fh0 fw1)]
  unfold kernelRun0_A
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl
end

end Cert.Dora
end
-- ==== Proof.OpenB.lean ====
module

public import proofs.«01_k».proof.Proof.StepDefs

@[expose] public section
set_option maxRecDepth 16384
/-! # What one step leaves, opened

Each named content of a step — the scratch arrays it carries on, the blocks it writes out — is read here as one
function of the step's blocks and of what the step before left. -/

noncomputable section
namespace Cert.Dora
open Idealize.ShloMosaic Idealize.ShloMosaic.TcCoe Idealize.ShloMosaic.Tactic Idealize.SL.Sem
open Cert.KernelIdeal Cert.KernelIdeal.Gen

section
variable (c : Dev nD) (i : grid0.Coords) (arg1 : Memref sig .tc .vmem S1920x256 .bf16) (harg1 : arg1.IsWhole)
   (arg3 : Memref sig .tc .vmem S1920x1 .f32) (harg3 : arg3.IsWhole) (arg4 : Memref sig .tc .vmem S1x1920 .f32)
   (harg4 : arg4.IsWhole) (arg5 : Memref sig .tc .vmem S1792x256 .i8) (harg5 : arg5.IsWhole)
   (arg6 : Memref sig .tc .vmem S28x256 .f32) (harg6 : arg6.IsWhole) (arg7 : Memref sig .tc .vmem S3584x64 .bf16)
   (harg7 : arg7.IsWhole) (arg8 : Memref sig .tc .vmem S64x3584 .bf16) (harg8 : arg8.IsWhole)
   (arg9 : Memref sig .tc .vmem S64x256 .bf16) (harg9 : arg9.IsWhole) (arg10 : Memref sig .tc .vmem S1x256 .f32)
   (harg10 : arg10.IsWhole) (arg11 : Memref sig .tc .vmem S1x256 .f32) (harg11 : arg11.IsWhole)
   (arg13 : Memref sig .tc .vmem S64x3584 .bf16) (harg13 : arg13.IsWhole) (arg14 : Memref sig .tc .vmem S64x256 .bf16)
   (harg14 : arg14.IsWhole) (arg15 : Memref sig .tc .vmem S1x256 .f32) (harg15 : arg15.IsWhole)
   (arg16 : Memref sig .tc .vmem S1920x3584 .bf16) (harg16 : arg16.IsWhole) (arg17 : Memref sig .tc .vmem S1920x3584 .f32)
   (harg17 : arg17.IsWhole) (arg18 : Memref sig .tc .vmem S3584x256 .bf16) (harg18 : arg18.IsWhole)
   (arg19 : Memref sig .tc .vmem S3584x256 .bf16) (harg19 : arg19.IsWhole) (arg20 : Memref sig .tc .vmem S1920x256 .bf16)
   (harg20 : arg20.IsWhole) (arg21 : Memref sig .tc .vmem S64x1920 .bf16) (harg21 : arg21.IsWhole)
   (arg22 : Memref sig .tc .vmem S64x1920 .f32) (harg22 : arg22.IsWhole) (arg23 : Memref sig .tc .vmem S64x3584 .f32)
   (harg23 : arg23.IsWhole) (arg25 : Memref sig .tc .vmem S1920x3584 .fp8e4m3) (harg25 : arg25.IsWhole) (hc0 : ¬cond0_0 i)
   (hc1 : ¬cond0_1 i)
variable (x0 : Vec Ideal S1920x256 .bf16) (x1 : Vec Ideal S1920x1 .f32) (x2 : Vec Ideal S1x1920 .f32)
   (x3 : Vec Ideal S1792x256 .i8) (x4 : Vec Ideal S28x256 .f32) (x5 : Vec Ideal S3584x64 .bf16) (x6 : Vec Ideal S64x3584 .bf16)
   (x7 : Vec Ideal S64x256 .bf16) (x8 : Vec Ideal S1x256 .f32) (x9 : Vec Ideal S1x256 .f32) (xs0 : Vec Ideal S1920x3584 .bf16)
   (xs1 : Vec Ideal S1920x3584 .f32) (xs5 : Vec Ideal S64x1920 .bf16) (xs6 : Vec Ideal S64x1920 .f32)
   (xs7 : Vec Ideal S64x3584 .f32) (fh0 : HbBuf0 (F := Ideal) c hbM0_0) (fw1 : HbBuf0 (F := Ideal) c hbM0_1)

/-- After the middle step: the gradient of the adapter's second factor. -/
theorem out0_B_11_eq : out0_B_11 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = dbB xs0 (vblk x3 x4 x5 x7) xs5 x6 x0 x1 x8 x9 := by
  unfold out0_B_11
  rw [View.read_writes_eq_canon _ _ _ (cover0_B_11 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_B
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the middle step: the magnitude gradient. -/
theorem out0_B_12_eq : out0_B_12 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = dmB xs0 (vblk x3 x4 x5 x7) x0 x1 x9 := by
  unfold out0_B_12
  rw [View.read_writes_eq_canon _ _ _ (cover0_B_12 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_B
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the middle step: the accumulator of the first result. -/
theorem sout0_B_1_eq : sout0_B_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = accB xs1 (vblk x3 x4 x5 x7) x0 x8 x9 := by
  unfold sout0_B_1
  rw [View.read_writes_eq_canon _ _ _ (scover0_B_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_B
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the middle step: the accumulator of the hidden gradient. -/
theorem sout0_B_6_eq : sout0_B_6 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = htB xs6 x7 x0 x8 x9 := by
  unfold sout0_B_6
  rw [View.read_writes_eq_canon _ _ _ (scover0_B_6 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_B
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the middle step: the accumulator of the correction. -/
theorem sout0_B_7_eq : sout0_B_7 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = corrB xs7 xs0 (vblk x3 x4 x5 x7) x7 x0 x1 x8 x9 := by
  unfold sout0_B_7
  rw [View.read_writes_eq_canon _ _ _ (scover0_B_7 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_B
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl
end

end Cert.Dora
end
-- ==== Proof.OpenC.lean ====
module

public import proofs.«01_k».proof.Proof.StepDefs

@[expose] public section
set_option maxRecDepth 16384
/-! # What one step leaves, opened

Each named content of a step — the scratch arrays it carries on, the blocks it writes out — is read here as one
function of the step's blocks and of what the step before left. -/

noncomputable section
namespace Cert.Dora
open Idealize.ShloMosaic Idealize.ShloMosaic.TcCoe Idealize.ShloMosaic.Tactic Idealize.SL.Sem
open Cert.KernelIdeal Cert.KernelIdeal.Gen

section
variable (c : Dev nD) (i : grid0.Coords) (arg1 : Memref sig .tc .vmem S1920x256 .bf16) (harg1 : arg1.IsWhole)
   (arg3 : Memref sig .tc .vmem S1920x1 .f32) (harg3 : arg3.IsWhole) (arg4 : Memref sig .tc .vmem S1x1920 .f32)
   (harg4 : arg4.IsWhole) (arg5 : Memref sig .tc .vmem S1792x256 .i8) (harg5 : arg5.IsWhole)
   (arg6 : Memref sig .tc .vmem S28x256 .f32) (harg6 : arg6.IsWhole) (arg7 : Memref sig .tc .vmem S3584x64 .bf16)
   (harg7 : arg7.IsWhole) (arg8 : Memref sig .tc .vmem S64x3584 .bf16) (harg8 : arg8.IsWhole)
   (arg9 : Memref sig .tc .vmem S64x256 .bf16) (harg9 : arg9.IsWhole) (arg10 : Memref sig .tc .vmem S1x256 .f32)
   (harg10 : arg10.IsWhole) (arg11 : Memref sig .tc .vmem S1x256 .f32) (harg11 : arg11.IsWhole)
   (arg13 : Memref sig .tc .vmem S64x3584 .bf16) (harg13 : arg13.IsWhole) (arg14 : Memref sig .tc .vmem S64x256 .bf16)
   (harg14 : arg14.IsWhole) (arg15 : Memref sig .tc .vmem S1x256 .f32) (harg15 : arg15.IsWhole)
   (arg16 : Memref sig .tc .vmem S1920x3584 .bf16) (harg16 : arg16.IsWhole) (arg17 : Memref sig .tc .vmem S1920x3584 .f32)
   (harg17 : arg17.IsWhole) (arg18 : Memref sig .tc .vmem S3584x256 .bf16) (harg18 : arg18.IsWhole)
   (arg19 : Memref sig .tc .vmem S3584x256 .bf16) (harg19 : arg19.IsWhole) (arg20 : Memref sig .tc .vmem S1920x256 .bf16)
   (harg20 : arg20.IsWhole) (arg21 : Memref sig .tc .vmem S64x1920 .bf16) (harg21 : arg21.IsWhole)
   (arg22 : Memref sig .tc .vmem S64x1920 .f32) (harg22 : arg22.IsWhole) (arg23 : Memref sig .tc .vmem S64x3584 .f32)
   (harg23 : arg23.IsWhole) (arg25 : Memref sig .tc .vmem S1920x3584 .fp8e4m3) (harg25 : arg25.IsWhole) (hc0 : ¬cond0_0 i)
   (hc1 : cond0_1 i)
variable (x0 : Vec Ideal S1920x256 .bf16) (x1 : Vec Ideal S1920x1 .f32) (x2 : Vec Ideal S1x1920 .f32)
   (x3 : Vec Ideal S1792x256 .i8) (x4 : Vec Ideal S28x256 .f32) (x5 : Vec Ideal S3584x64 .bf16) (x6 : Vec Ideal S64x3584 .bf16)
   (x7 : Vec Ideal S64x256 .bf16) (x8 : Vec Ideal S1x256 .f32) (x9 : Vec Ideal S1x256 .f32) (xs0 : Vec Ideal S1920x3584 .bf16)
   (xs1 : Vec Ideal S1920x3584 .f32) (xs5 : Vec Ideal S64x1920 .bf16) (xs6 : Vec Ideal S64x1920 .f32)
   (xs7 : Vec Ideal S64x3584 .f32) (fh0 : HbBuf0 (F := Ideal) c hbM0_0) (fw1 : HbBuf0 (F := Ideal) c hbM0_1)

set_option maxHeartbeats 2000000 in
/-- After the last step: the gradient of the adapter's first factor. -/
theorem out0_C_10_eq : out0_C_10 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = datB (htB xs6 x7 x0 x8 x9) (corrB xs7 xs0 (vblk x3 x4 x5 x7) x7 x0 x1 x8 x9) xs0 x1 := by
  unfold out0_C_10
  rw [View.read_writes_eq_canon _ _ _ (cover0_C_10 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  simp only [readCov_ld_corr]
  funext y
  refine View.canon_apply_of_pieces (datB (htB xs6 x7 x0 x8 x9) (corrB xs7 xs0 (vblk x3 x4 x5 x7) x7 x0 x1 x8 x9) xs0 x1) _ ?_ y (View.cover_of_tiledL _ ![64, 512] (by sl_kernel_rfl) y)
  intro p hp x
  simp only [List.mem_cons, List.not_mem_nil, or_false] at hp
  rcases hp with rfl | rfl | rfl | rfl | rfl | rfl | rfl
  · exact dat_piece (htB xs6 x7 x0 x8 x9) (corrB xs7 xs0 (vblk x3 x4 x5 x7) x7 x0 x1 x8 x9) xs0 x1 3072
      inb_S1920x3584_S1920x512_0_3072 inb_S64x3584_S64x512_0_3072 x
  · exact dat_piece (htB xs6 x7 x0 x8 x9) (corrB xs7 xs0 (vblk x3 x4 x5 x7) x7 x0 x1 x8 x9) xs0 x1 2560
      inb_S1920x3584_S1920x512_0_2560 inb_S64x3584_S64x512_0_2560 x
  · exact dat_piece (htB xs6 x7 x0 x8 x9) (corrB xs7 xs0 (vblk x3 x4 x5 x7) x7 x0 x1 x8 x9) xs0 x1 2048
      inb_S1920x3584_S1920x512_0_2048 inb_S64x3584_S64x512_0_2048 x
  · exact dat_piece (htB xs6 x7 x0 x8 x9) (corrB xs7 xs0 (vblk x3 x4 x5 x7) x7 x0 x1 x8 x9) xs0 x1 1536
      inb_S1920x3584_S1920x512_0_1536 inb_S64x3584_S64x512_0_1536 x
  · exact dat_piece (htB xs6 x7 x0 x8 x9) (corrB xs7 xs0 (vblk x3 x4 x5 x7) x7 x0 x1 x8 x9) xs0 x1 1024
      inb_S1920x3584_S1920x512_0_1024 inb_S64x3584_S64x512_0_1024 x
  · exact dat_piece (htB xs6 x7 x0 x8 x9) (corrB xs7 xs0 (vblk x3 x4 x5 x7) x7 x0 x1 x8 x9) xs0 x1 512
      inb_S1920x3584_S1920x512_0_512 inb_S64x3584_S64x512_0_512 x
  · exact dat_piece (htB xs6 x7 x0 x8 x9) (corrB xs7 xs0 (vblk x3 x4 x5 x7) x7 x0 x1 x8 x9) xs0 x1 0
      inb_S1920x3584_S1920x512_0_0 inb_S64x3584_S64x512_0_0 x

/-- After the last step: the gradient of the adapter's second factor. -/
theorem out0_C_11_eq : out0_C_11 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = dbB xs0 (vblk x3 x4 x5 x7) xs5 x6 x0 x1 x8 x9 := by
  unfold out0_C_11
  rw [View.read_writes_eq_canon _ _ _ (cover0_C_11 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the last step: the magnitude gradient. -/
theorem out0_C_12_eq : out0_C_12 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = dmB xs0 (vblk x3 x4 x5 x7) x0 x1 x9 := by
  unfold out0_C_12
  rw [View.read_writes_eq_canon _ _ _ (cover0_C_12 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the last step: the accumulator of the first result. -/
theorem sout0_C_1_eq : sout0_C_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = accB xs1 (vblk x3 x4 x5 x7) x0 x8 x9 := by
  unfold sout0_C_1
  rw [View.read_writes_eq_canon _ _ _ (scover0_C_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the last step: the accumulator of the hidden gradient. -/
theorem sout0_C_6_eq : sout0_C_6 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = htB xs6 x7 x0 x8 x9 := by
  unfold sout0_C_6
  rw [View.read_writes_eq_canon _ _ _ (scover0_C_6 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl

/-- After the last step: the accumulator of the correction. -/
theorem sout0_C_7_eq : sout0_C_7 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = corrB xs7 xs0 (vblk x3 x4 x5 x7) x7 x0 x1 x8 x9 := by
  unfold sout0_C_7
  rw [View.read_writes_eq_canon _ _ _ (scover0_C_7 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  rfl
end

end Cert.Dora
end
-- ==== Proof.OpenD.lean ====
module

public import proofs.«01_k».proof.Proof.StepDefs

@[expose] public section
set_option maxRecDepth 16384
/-! # What one step leaves, opened

Each named content of a step — the scratch arrays it carries on, the blocks it writes out — is read here as one
function of the step's blocks and of what the step before left. -/

noncomputable section
namespace Cert.Dora
open Idealize.ShloMosaic Idealize.ShloMosaic.TcCoe Idealize.ShloMosaic.Tactic Idealize.SL.Sem
open Cert.KernelIdeal Cert.KernelIdeal.Gen

section
variable (c : Dev nD) (i : grid0.Coords) (arg1 : Memref sig .tc .vmem S1920x256 .bf16) (harg1 : arg1.IsWhole)
   (arg3 : Memref sig .tc .vmem S1920x1 .f32) (harg3 : arg3.IsWhole) (arg4 : Memref sig .tc .vmem S1x1920 .f32)
   (harg4 : arg4.IsWhole) (arg5 : Memref sig .tc .vmem S1792x256 .i8) (harg5 : arg5.IsWhole)
   (arg6 : Memref sig .tc .vmem S28x256 .f32) (harg6 : arg6.IsWhole) (arg7 : Memref sig .tc .vmem S3584x64 .bf16)
   (harg7 : arg7.IsWhole) (arg8 : Memref sig .tc .vmem S64x3584 .bf16) (harg8 : arg8.IsWhole)
   (arg9 : Memref sig .tc .vmem S64x256 .bf16) (harg9 : arg9.IsWhole) (arg10 : Memref sig .tc .vmem S1x256 .f32)
   (harg10 : arg10.IsWhole) (arg11 : Memref sig .tc .vmem S1x256 .f32) (harg11 : arg11.IsWhole)
   (arg13 : Memref sig .tc .vmem S64x3584 .bf16) (harg13 : arg13.IsWhole) (arg14 : Memref sig .tc .vmem S64x256 .bf16)
   (harg14 : arg14.IsWhole) (arg15 : Memref sig .tc .vmem S1x256 .f32) (harg15 : arg15.IsWhole)
   (arg16 : Memref sig .tc .vmem S1920x3584 .bf16) (harg16 : arg16.IsWhole) (arg17 : Memref sig .tc .vmem S1920x3584 .f32)
   (harg17 : arg17.IsWhole) (arg18 : Memref sig .tc .vmem S3584x256 .bf16) (harg18 : arg18.IsWhole)
   (arg19 : Memref sig .tc .vmem S3584x256 .bf16) (harg19 : arg19.IsWhole) (arg20 : Memref sig .tc .vmem S1920x256 .bf16)
   (harg20 : arg20.IsWhole) (arg21 : Memref sig .tc .vmem S64x1920 .bf16) (harg21 : arg21.IsWhole)
   (arg22 : Memref sig .tc .vmem S64x1920 .f32) (harg22 : arg22.IsWhole) (arg23 : Memref sig .tc .vmem S64x3584 .f32)
   (harg23 : arg23.IsWhole) (arg25 : Memref sig .tc .vmem S1920x3584 .fp8e4m3) (harg25 : arg25.IsWhole) (hc0 : ¬cond0_0 i)
   (hc1 : cond0_1 i)
variable (x0 : Vec Ideal S1920x256 .bf16) (x1 : Vec Ideal S1920x1 .f32) (x2 : Vec Ideal S1x1920 .f32)
   (x3 : Vec Ideal S1792x256 .i8) (x4 : Vec Ideal S28x256 .f32) (x5 : Vec Ideal S3584x64 .bf16) (x6 : Vec Ideal S64x3584 .bf16)
   (x7 : Vec Ideal S64x256 .bf16) (x8 : Vec Ideal S1x256 .f32) (x9 : Vec Ideal S1x256 .f32) (xs0 : Vec Ideal S1920x3584 .bf16)
   (xs1 : Vec Ideal S1920x3584 .f32) (xs5 : Vec Ideal S64x1920 .bf16) (xs6 : Vec Ideal S64x1920 .f32)
   (xs7 : Vec Ideal S64x3584 .f32) (fh0 : HbBuf0 (F := Ideal) c hbM0_0) (fw1 : HbBuf0 (F := Ideal) c hbM0_1)

set_option maxHeartbeats 2000000 in
/-- After the last step: the activations scratch. -/
theorem sout0_C_0_eq : sout0_C_0 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = dxB (accB xs1 (vblk x3 x4 x5 x7) x0 x8 x9) := by
  unfold sout0_C_0
  rw [View.read_writes_eq_canon _ _ _ (scover0_C_0 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1)]
  unfold kernelRun0_C
  dsimp only
  sl_unfold_words
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  simp only [readCov_ld_acc]
  funext y
  refine View.canon_apply_of_pieces (dxB (accB xs1 (vblk x3 x4 x5 x7) x0 x8 x9)) _ ?_ y
    (View.cover_of_tiledL _ ![1920, 512] (by sl_kernel_rfl) y)
  intro p hp x
  simp only [List.mem_cons, List.not_mem_nil, or_false] at hp
  rcases hp with rfl | rfl | rfl | rfl | rfl | rfl | rfl
  · exact x_piece (accB xs1 (vblk x3 x4 x5 x7) x0 x8 x9) 3072 inb_S1920x3584_S1920x512_0_3072 x
  · exact x_piece (accB xs1 (vblk x3 x4 x5 x7) x0 x8 x9) 2560 inb_S1920x3584_S1920x512_0_2560 x
  · exact x_piece (accB xs1 (vblk x3 x4 x5 x7) x0 x8 x9) 2048 inb_S1920x3584_S1920x512_0_2048 x
  · exact x_piece (accB xs1 (vblk x3 x4 x5 x7) x0 x8 x9) 1536 inb_S1920x3584_S1920x512_0_1536 x
  · exact x_piece (accB xs1 (vblk x3 x4 x5 x7) x0 x8 x9) 1024 inb_S1920x3584_S1920x512_0_1024 x
  · exact x_piece (accB xs1 (vblk x3 x4 x5 x7) x0 x8 x9) 512 inb_S1920x3584_S1920x512_0_512 x
  · exact x_piece (accB xs1 (vblk x3 x4 x5 x7) x0 x8 x9) 0 inb_S1920x3584_S1920x512_0_0 x

set_option maxHeartbeats 2000000 in
/-- After the last step the array the first result lives in holds the finished accumulator. -/
theorem hbw0_C_1_eq : hbw0_C_1 (F := Ideal) c i arg1 harg1 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 arg23 harg23 arg25 harg25 hc0 hc1 x0 x1 x2 x3 x4 x5 x6 x7 x8 x9 xs0 xs1 xs5 xs6 xs7 fh0 fw1
    = dxB (accB xs1 (vblk x3 x4 x5 x7) x0 x8 x9) := by
  unfold hbw0_C_1
  unfold kernelRun0_C
  dsimp only
  sl_unfold_words
  rw [View.write_whole_univ]
  refine (ReadAs.apply_same _).trans ?_
  rw [View.read_writes_eq_canon _ _ _ (View.cover_of_tiledL _ ![1920, 512] (by sl_kernel_rfl))]
  simp only [View.readAt_eq_ld, harg1.read_unread, harg3.read_unread, harg4.read_unread, harg5.read_unread,
    harg6.read_unread, harg7.read_unread, harg8.read_unread, harg9.read_unread, harg10.read_unread,
    harg11.read_unread, harg13.read_unread, harg14.read_unread, harg16.read_unread, harg17.read_unread,
    harg18.read_unread, harg19.read_unread, harg20.read_unread, harg21.read_unread, harg22.read_unread,
    harg23.read_unread, harg25.read_unread, View.canon_cons_unit_zero (S := S1920x3584) hz,
    View.ld_unit_zero (S := S1920x3584) hz, View.ld_unit_zero (S := S1920x256) hz,
    View.ld_unit_zero (S := S64x256) hz, View.ld_unit_zero (S := S1x256) hz,
    View.ld_unit_zero (S := S64x3584) hz, View.ld_unit_zero (S := S64x1920) hz,
    View.ld_unit_zero (S := S1920x1) hz, View.ld_unit_zero (S := S1x1920) hz,
    View.canon_cons_unit_zero (S := S64x1920) hz, View.canon_cons_unit_zero (S := S64x3584) hz,
    View.canon_cons_unit_zero (S := S64x256) hz, View.canon_cons_unit_zero (S := S1x256) hz,
    View.canon_cons_unit_zero (S := S1920x256) hz, View.canon_cons_unit_zero (S := S3584x256) hz,
    View.readCov_unit_zero (S := S1920x3584) _ hz, View.readCov_unit_zero (S := S1920x256) _ hz,
    View.readCov_unit_zero (S := S64x256) _ hz, View.readCov_unit_zero (S := S1x256) _ hz,
    View.readCov_unit_zero (S := S64x3584) _ hz, View.readCov_unit_zero (S := S64x1920) _ hz,
    View.readCov_unit_zero (S := S1920x1) _ hz, View.readCov_unit_zero (S := S1x1920) _ hz,
    View.readCov_unit_zero (S := S3584x256) _ hz, readCov_copy]
  try simp only [v_read]
  simp only [readCov_ld_acc]
  funext y
  refine View.canon_apply_of_pieces (dxB (accB xs1 (vblk x3 x4 x5 x7) x0 x8 x9)) _ ?_ y
    (View.cover_of_tiledL _ ![1920, 512] (by sl_kernel_rfl) y)
  intro p hp x
  simp only [List.mem_cons, List.not_mem_nil, or_false] at hp
  rcases hp with rfl | rfl | rfl | rfl | rfl | rfl | rfl
  · exact x_piece (accB xs1 (vblk x3 x4 x5 x7) x0 x8 x9) 3072 inb_S1920x3584_S1920x512_0_3072 x
  · exact x_piece (accB xs1 (vblk x3 x4 x5 x7) x0 x8 x9) 2560 inb_S1920x3584_S1920x512_0_2560 x
  · exact x_piece (accB xs1 (vblk x3 x4 x5 x7) x0 x8 x9) 2048 inb_S1920x3584_S1920x512_0_2048 x
  · exact x_piece (accB xs1 (vblk x3 x4 x5 x7) x0 x8 x9) 1536 inb_S1920x3584_S1920x512_0_1536 x
  · exact x_piece (accB xs1 (vblk x3 x4 x5 x7) x0 x8 x9) 1024 inb_S1920x3584_S1920x512_0_1024 x
  · exact x_piece (accB xs1 (vblk x3 x4 x5 x7) x0 x8 x9) 512 inb_S1920x3584_S1920x512_0_512 x
  · exact x_piece (accB xs1 (vblk x3 x4 x5 x7) x0 x8 x9) 0 inb_S1920x3584_S1920x512_0_0 x
end

end Cert.Dora
end
-- ==== Proof.Spec.lean ====
module

public import proofs.«01_k».proof.Proof.StepDefs

@[expose] public section
set_option maxRecDepth 16384

/-! # The problem's mathematics, and one step of the kernel against it

`Arr` is the nine arguments as arrays of extended reals. Its functions are the quantities of the problem at one index:
the effective weight, the forward product, the magnitude gradient, the corrected weight and the four results. A step
of the kernel sees 256 consecutive columns; `Blk A n` says its blocks are the arguments at the columns of step `n`,
and the lemmas read every quantity of the step as the problem's quantity at those columns. -/

noncomputable section
namespace Cert.Dora
open Idealize.ShloMosaic Idealize.ShloMosaic.TcCoe Idealize.ShloMosaic.Tactic Idealize.SL.Sem
open Cert.KernelIdeal Cert.KernelIdeal.Gen

/-- The nine arguments. -/
structure Arr where
  dy3 : Vec Ideal S3x640x18944 .bf16
  x3 : Vec Ideal S3x640x3584 .fp8e4m3
  s3 : Vec Ideal S3x640 .f32
  pk : Vec Ideal S1792x18944 .i8
  sc : Vec Ideal S28x18944 .bf16
  a : Vec Ideal S3584x64 .bf16
  b : Vec Ideal S64x18944 .bf16
  mag : Vec Ideal S18944 .f32
  cn : Vec Ideal S18944 .f32

namespace Arr
variable (A : Arr)

/-- The incoming gradient at a token and an output column. -/
def dy (t : Fin 1920) (o : Fin 18944) : EReal := A.dy3 (ix3 ⟨t.val / 640, by omega⟩ ⟨t.val % 640, by omega⟩ o)
/-- The activation code at a token and a feature. -/
def X (t : Fin 1920) (i : Fin 3584) : EReal := A.x3 (ix3 ⟨t.val / 640, by omega⟩ ⟨t.val % 640, by omega⟩ i)
/-- The activation scale of a token. -/
def s (t : Fin 1920) : EReal := A.s3 (ix2 ⟨t.val / 640, by omega⟩ ⟨t.val % 640, by omega⟩)
/-- The effective weight. -/
def W (i : Fin 3584) (o : Fin 18944) : EReal := wval (m := 18944) A.pk A.sc A.a A.b i o
/-- The gradient times magnitude over norm. -/
def Dyp (t : Fin 1920) (o : Fin 18944) : EReal := A.dy t o * Ideal.div (A.mag (ix1 o)) (A.cn (ix1 o))
/-- The magnitude gradient. -/
def DM (o : Fin 18944) : EReal :=
  Ideal.div (∑ t : Fin 1920, A.dy t o * ((∑ i : Fin 3584, A.X t i * A.W i o) * A.s t)) (A.cn (ix1 o))
/-- The correction factor of a column. -/
def C (o : Fin 18944) : EReal := Ideal.div (A.DM o * A.mag (ix1 o)) (A.cn (ix1 o) * A.cn (ix1 o))
/-- The corrected weight. -/
def VC (i : Fin 3584) (o : Fin 18944) : EReal := A.W i o * A.C o
/-- The gradient of the activations. -/
def DX (t : Fin 1920) (i : Fin 3584) : EReal := ∑ o : Fin 18944, A.Dyp t o * A.W i o
/-- The hidden gradient of the adapter. -/
def HT (r : Fin 64) (t : Fin 1920) : EReal := ∑ o : Fin 18944, A.b (ix2 r o) * A.Dyp t o
/-- The norm's correction to the first factor's gradient. -/
def CORR (r : Fin 64) (i : Fin 3584) : EReal := ∑ o : Fin 18944, A.b (ix2 r o) * A.VC i o
/-- The adapter's activations. -/
def XAT (r : Fin 64) (t : Fin 1920) : EReal := (∑ i : Fin 3584, A.a (ix2 i r) * A.X t i) * A.s t
/-- The gradient of the second factor. -/
def DB (r : Fin 64) (o : Fin 18944) : EReal :=
  half * (∑ t : Fin 1920, A.XAT r t * A.Dyp t o - ∑ i : Fin 3584, A.a (ix2 i r) * A.VC i o)
/-- The gradient of the first factor, transposed. -/
def DAT (r : Fin 64) (i : Fin 3584) : EReal :=
  half * (∑ t : Fin 1920, A.HT r t * (A.X t i * A.s t) - A.CORR r i)
end Arr

/-- The output column `l` of step `n`. -/
def col (n : ℕ) (hn : n < 74) (l : Fin 256) : Fin 18944 := ⟨256 * n + l.val, by omega⟩

/-- The blocks of step `n` are the arguments at its columns. -/
structure Blk (A : Arr) (n : ℕ) (hn : n < 74) (x0 : Vec Ideal S1920x256 .bf16) (x1 : Vec Ideal S1920x1 .f32)
    (x2 : Vec Ideal S1x1920 .f32) (x3 : Vec Ideal S1792x256 .i8) (x4 : Vec Ideal S28x256 .f32)
    (x5 : Vec Ideal S3584x64 .bf16) (x6 : Vec Ideal S64x3584 .bf16) (x7 : Vec Ideal S64x256 .bf16)
    (x8 x9 : Vec Ideal S1x256 .f32) : Prop where
  e0 : ∀ t l, x0 (ix2 t l) = A.dy t (col n hn l)
  e1 : ∀ t, x1 (ix2 t 0) = A.s t
  e2 : ∀ t, x2 (ix2 0 t) = A.s t
  e3 : ∀ j l, x3 (ix2 j l) = A.pk (ix2 j (col n hn l))
  e4 : ∀ g l, x4 (ix2 g l) = A.sc (ix2 g (col n hn l))
  e5 : ∀ i r, x5 (ix2 i r) = A.a (ix2 i r)
  e6 : ∀ r i, x6 (ix2 r i) = A.a (ix2 i r)
  e7 : ∀ r l, x7 (ix2 r l) = A.b (ix2 r (col n hn l))
  e8 : ∀ l, x8 (ix2 0 l) = A.mag (ix1 (col n hn l))
  e9 : ∀ l, x9 (ix2 0 l) = A.cn (ix1 (col n hn l))

section
variable {A : Arr} {n : ℕ} {hn : n < 74} {x0 : Vec Ideal S1920x256 .bf16} {x1 : Vec Ideal S1920x1 .f32}
  {x2 : Vec Ideal S1x1920 .f32} {x3 : Vec Ideal S1792x256 .i8} {x4 : Vec Ideal S28x256 .f32}
  {x5 : Vec Ideal S3584x64 .bf16} {x6 : Vec Ideal S64x3584 .bf16} {x7 : Vec Ideal S64x256 .bf16}
  {x8 x9 : Vec Ideal S1x256 .f32} (B : Blk A n hn x0 x1 x2 x3 x4 x5 x6 x7 x8 x9)
  {x : Vec Ideal S1920x3584 .bf16} (hx : ∀ t i, x (ix2 t i) = A.X t i)
  {v : Vec Ideal S3584x256 .bf16} (hv : ∀ i l, v (ix2 i l) = A.W i (col n hn l))
include B

/-- The step's weight block is the effective weight at its columns. -/
theorem vblk_eq (i : Fin 3584) (l : Fin 256) : vblk x3 x4 x5 x7 (ix2 i l) = A.W i (col n hn l) := by
  show wval (m := 256) x3 x4 x5 x7 i l = _
  unfold Arr.W wval
  simp only [B.e3, B.e4, B.e5, B.e7]

/-- A step's scaled gradient is the problem's at the step's columns. -/
theorem dypB_eq (t : Fin 1920) (l : Fin 256) : dypB x0 x8 x9 (ix2 t l) = A.Dyp t (col n hn l) := by
  unfold dypB k0_pay63 k0_pay26 k0_pay27
  pointwise
  simp only [B.e0, B.e8, B.e9]
  rfl

include hx hv

/-- A step's magnitude gradient is the problem's at the step's columns. -/
theorem dmB_eq (l : Fin 256) : dmB x v x0 x1 x9 (ix2 0 l) = A.DM (col n hn l) := by
  unfold dmB k0_pay66 k0_pay64 k0_pay65 k0_pay27
  pointwise
  simp only [B.e0, B.e1, B.e9, hx, hv]
  rfl

/-- A step's weight times correction is the problem's at the step's columns. -/
theorem vcB_eq (i : Fin 3584) (l : Fin 256) : vcB x v x0 x1 x8 x9 (ix2 i l) = A.VC i (col n hn l) := by
  have e := dmB_eq B hx hv l
  unfold dmB at e
  unfold vcB k0_pay69
  pointwise
  rw [e]
  unfold k0_pay26 k0_pay27
  pointwise
  simp only [B.e8, B.e9, hv]
  rfl

omit hx
/-- A step adds to the input gradient's accumulator the sum over the step's columns. -/
theorem accB_eq (acc : Vec Ideal S1920x3584 .f32) (t : Fin 1920) (i : Fin 3584) :
    accB acc v x0 x8 x9 (ix2 t i) = acc (ix2 t i) + ∑ l : Fin 256, A.Dyp t (col n hn l) * A.W i (col n hn l) := by
  unfold accB k0_pay67
  pointwise
  simp only [dypB_eq B, hv]

omit hv
/-- A step adds to the hidden gradient's accumulator the sum over the step's columns. -/
theorem htB_eq (ht : Vec Ideal S64x1920 .f32) (r : Fin 64) (t : Fin 1920) :
    htB ht x7 x0 x8 x9 (ix2 r t) = ht (ix2 r t) + ∑ l : Fin 256, A.b (ix2 r (col n hn l)) * A.Dyp t (col n hn l) := by
  unfold htB k0_pay68
  pointwise
  simp only [dypB_eq B, B.e7]

include hx hv
/-- A step adds to the correction's accumulator the sum over the step's columns. -/
theorem corrB_eq (corr : Vec Ideal S64x3584 .f32) (r : Fin 64) (i : Fin 3584) :
    corrB corr x v x7 x0 x1 x8 x9 (ix2 r i)
      = corr (ix2 r i) + ∑ l : Fin 256, A.b (ix2 r (col n hn l)) * A.VC i (col n hn l) := by
  unfold corrB k0_pay1
  pointwise
  simp only [vcB_eq B hx hv, B.e7]

/-- A step's gradient of the second factor is the problem's at the step's columns. -/
theorem dbB_eq {xat : Vec Ideal S64x1920 .bf16} (hxa : ∀ r t, xat (ix2 r t) = A.XAT r t) (r : Fin 64) (l : Fin 256) :
    dbB x v xat x6 x0 x1 x8 x9 (ix2 r l) = A.DB r (col n hn l) := by
  unfold dbB k0_pay2
  pointwise
  simp only [vcB_eq B hx hv, dypB_eq B, B.e6, hxa]
  rfl

omit hv
/-- The first step's scaled adapter activations are the problem's. -/
theorem xatB_eq (r : Fin 64) (t : Fin 1920) : xatB x6 x x2 (ix2 r t) = A.XAT r t := by
  unfold xatB k0_pay22
  pointwise
  simp only [B.e6, B.e2, hx]
  rfl

end

/-- The sum of a column's function over the columns of the first `n` steps. -/
def part (f : Fin 18944 → EReal) (n : ℕ) : EReal :=
  ∑ k ∈ Finset.range n, if h : k < 74 then ∑ l : Fin 256, f (col k h l) else 0

/-- The sum over the columns of the first `n + 1` steps is that of the first `n` and one step's. -/
theorem part_succ (f : Fin 18944 → EReal) (n : ℕ) (h : n < 74) :
    part f (n + 1) = part f n + ∑ l : Fin 256, f (col n h l) := by
  unfold part
  rw [Finset.sum_range_succ, dif_pos h]

/-- The sum over no steps is zero. -/
theorem part_zero (f : Fin 18944 → EReal) : part f 0 = 0 := by
  unfold part; rw [Finset.range_zero, Finset.sum_empty]

/-- Over all 74 steps it is the sum over all columns. -/
theorem part_all (f : Fin 18944 → EReal) : part f 74 = ∑ o : Fin 18944, f o := by
  unfold part
  rw [Finset.sum_range]
  have e : ∑ o : Fin (74 * 256), f o = ∑ p : Fin 74 × Fin 256, f (finProdFinEquiv p) :=
    (Equiv.sum_comp finProdFinEquiv _).symm
  refine Eq.trans ?_ e.symm
  rw [Fintype.sum_prod_type]
  refine Finset.sum_congr rfl fun k _ => ?_
  rw [dif_pos k.isLt]
  refine Finset.sum_congr rfl fun l _ => congrArg f (Fin.ext ?_)
  show 256 * k.val + l.val = l.val + 256 * k.val
  omega

end Cert.Dora
end
-- ==== Proof.Blocks.lean ====
module

public import proofs.«01_k».proof.Proof.Spec
public import proofs.«01_k».proof.Proof.FrameOuts
public import Idealize.ShloMosaic.Lib.Pipeline.ValueKit

@[expose] public section
set_option maxRecDepth 16384

/-! # The blocks of a step are the arguments at the step's columns

The host reshapes, transposes and widens some arguments before the kernel is entered (`V_v0` … `V_v7`); each window
then cuts step `n`'s 256 columns out of them, or hands the whole array over. -/

noncomputable section
namespace Cert.Dora
open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The nine arguments, as core `c` holds them at launch. -/
def arr : Arr where
  dy3 := m ((c : Thread nD τ).loc main_arg0)
  x3 := m ((c : Thread nD τ).loc main_arg1)
  s3 := m ((c : Thread nD τ).loc main_arg2)
  pk := m ((c : Thread nD τ).loc main_arg3)
  sc := m ((c : Thread nD τ).loc main_arg4)
  a := m ((c : Thread nD τ).loc main_arg5)
  b := m ((c : Thread nD τ).loc main_arg6)
  mag := m ((c : Thread nD τ).loc main_arg7)
  cn := m ((c : Thread nD τ).loc main_arg8)

/-- The gradient with batch and sequence put together. -/
theorem V_v0 : V m c main_v0 = shapeCast S1920x18944 (m ((c : Thread nD τ).loc main_arg0)) shapeCasts_S3x640x18944_S1920x18944 := by
  show StableHlo.after hostOps0 _ (Proc.devRef .tc main_v0) = _
  after_results
  rfl
/-- The activation codes with batch and sequence put together. -/
theorem V_v1 : V m c main_v1 = shapeCast S1920x3584 (m ((c : Thread nD τ).loc main_arg1)) shapeCasts_S3x640x3584_S1920x3584 := by
  show StableHlo.after hostOps0 _ (Proc.devRef .tc main_v1) = _
  after_results
  rfl
/-- The token scales as a column. -/
theorem V_v2 : V m c main_v2 = shapeCast S1920x1 (m ((c : Thread nD τ).loc main_arg2)) shapeCasts_S3x640_S1920x1 := by
  show StableHlo.after hostOps0 _ (Proc.devRef .tc main_v2) = _
  after_results
  rfl
/-- The token scales as a row. -/
theorem V_v3 : V m c main_v3 = shapeCast S1x1920 (m ((c : Thread nD τ).loc main_arg2)) shapeCasts_S3x640_S1x1920 := by
  show StableHlo.after hostOps0 _ (Proc.devRef .tc main_v3) = _
  after_results
  rfl
/-- The group scales, widened. -/
theorem V_v4 : V m c main_v4 = (extf .f32 (m ((c : Thread nD τ).loc main_arg4) : FVec Ideal S28x18944 .bf16) bitsLt_bf16_f32 : FVec Ideal S28x18944 .f32) := by
  show StableHlo.after hostOps0 _ (Proc.devRef .tc main_v4) = _
  after_results
/-- The first factor, transposed. -/
theorem V_v5 : V m c main_v5 = transpose S64x3584 [1, 0] (m ((c : Thread nD τ).loc main_arg5)) transposes_S3584x64_S64x3584_1_0 := by
  show StableHlo.after hostOps0 _ (Proc.devRef .tc main_v5) = _
  after_results
/-- The magnitude with a leading axis of one. -/
theorem V_v6 : V m c main_v6 = shapeCast S1x18944 (m ((c : Thread nD τ).loc main_arg7)) shapeCasts_S18944_S1x18944 := by
  show StableHlo.after hostOps0 _ (Proc.devRef .tc main_v6) = _
  after_results
  rfl
/-- The column norm with a leading axis of one. -/
theorem V_v7 : V m c main_v7 = shapeCast S1x18944 (m ((c : Thread nD τ).loc main_arg8)) shapeCasts_S18944_S1x18944 := by
  show StableHlo.after hostOps0 _ (Proc.devRef .tc main_v7) = _
  after_results
  rfl

/-- There are 74 steps. -/
theorem hn (t : Fin cfg0.N) : t.val < 74 := N_0 ▸ t.isLt

/-- The gradient's flattened tokens, read back at batch and sequence. -/
theorem flat_dy (v : Vec Ideal S3x640x18944 .bf16) (t : Fin 1920) (o : Fin 18944) :
    shapeCast S1920x18944 v shapeCasts_S3x640x18944_S1920x18944 (ix2 t o)
      = v (ix3 ⟨t.val / 640, by omega⟩ ⟨t.val % 640, by omega⟩ o) := by
  pointwise
/-- The codes' flattened tokens, read back at batch and sequence. -/
theorem flat_x (v : Vec Ideal S3x640x3584 .fp8e4m3) (t : Fin 1920) (o : Fin 3584) :
    shapeCast S1920x3584 v shapeCasts_S3x640x3584_S1920x3584 (ix2 t o)
      = v (ix3 ⟨t.val / 640, by omega⟩ ⟨t.val % 640, by omega⟩ o) := by
  pointwise
/-- The token scales' column, read back at batch and sequence. -/
theorem flat_s (v : Vec Ideal S3x640 .f32) (t : Fin 1920)  :
    shapeCast S1920x1 v shapeCasts_S3x640_S1920x1 (ix2 t 0)
      = v (ix2 ⟨t.val / 640, by omega⟩ ⟨t.val % 640, by omega⟩) := by
  pointwise
/-- The token scales' row, read back at batch and sequence. -/
theorem flat_sr (v : Vec Ideal S3x640 .f32) (t : Fin 1920)  :
    shapeCast S1x1920 v shapeCasts_S3x640_S1x1920 (ix2 0 t)
      = v (ix2 ⟨t.val / 640, by omega⟩ ⟨t.val % 640, by omega⟩) := by
  pointwise
/-- A vector over the output features with a leading axis of one, read back at the feature. -/
theorem flat_o (v : Vec Ideal S18944 .f32) (o : Fin 18944)  :
    shapeCast S1x18944 v shapeCasts_S18944_S1x18944 (ix2 0 o)
      = v (ix1 o) := by
  pointwise

/-- The kernel's cast of the flattened codes is, over the reals, the codes at batch and sequence. -/
theorem xB_flat (v : Vec Ideal S3x640x3584 .fp8e4m3) (t : Fin 1920) (i : Fin 3584) :
    xB (shapeCast S1920x3584 v shapeCasts_S3x640x3584_S1920x3584) (ix2 t i)
      = v (ix3 ⟨t.val / 640, by omega⟩ ⟨t.val % 640, by omega⟩ i) := by
  unfold xB k0_pay21
  pointwise

/-- The activation codes the kernel copies in, at an index. -/
theorem x_eq (t : Fin 1920) (i : Fin 3584) : xB (V m c main_v1) (ix2 t i) = (arr m c).X t i := by
  have e := V_v1 m c
  exact (congrArg (fun w => xB w (ix2 t i)) e).trans (xB_flat _ t i)

/-- The transposed first factor, read back. -/
theorem flat_a (v : Vec Ideal S3584x64 .bf16) (r : Fin 64) (i : Fin 3584) :
    transpose S64x3584 [1, 0] v transposes_S3584x64_S64x3584_1_0 (ix2 r i) = v (ix2 i r) := by
  pointwise

/-- At every step the gradient's block is the step's panel of columns. -/
theorem idx0 : ∀ t : Fin cfg0.N, win0_0.index t = ![0, t.val] := by decide +kernel

/-- An element of the gradient's block at a step, read off the arguments at the step's column. -/
theorem blk0 (t : Fin cfg0.N) (r : Fin 1920) (l : Fin 256) : iblk m c 0 t (ix2 r l) = (arr m c).dy r (col t.val (hn t) l) := by
  have e : iblk m c 0 t (ix2 r l) = V m c main_v0 (ix2 r (col t.val (hn t) l)) := by
    unfold iblk
    rw [View.read_apply]
    show V m c main_v0 _ = V m c main_v0 _
    congr 1
    funext a
    apply Fin.ext
    match a with
    | ⟨0, _⟩ => show win0_0.index t 0 * 1920 + 1 * r.val = r.val; rw [idx0]; show 0 * 1920 + 1 * r.val = _; omega
    | ⟨1, _⟩ => show win0_0.index t 1 * 256 + 1 * l.val = 256 * t.val + l.val; rw [idx0]; show t.val * 256 + 1 * l.val = _; omega
  refine e.trans ?_
  rw [V_v0]; exact flat_dy _ r _

/-- At every step the packed weight's block is the step's panel of columns. -/
theorem idx3 : ∀ t : Fin cfg0.N, win0_3.index t = ![0, t.val] := by decide +kernel

/-- An element of the packed weight's block at a step, read off the arguments at the step's column. -/
theorem blk3 (t : Fin cfg0.N) (r : Fin 1792) (l : Fin 256) : iblk m c 3 t (ix2 r l) = (arr m c).pk (ix2 r (col t.val (hn t) l)) := by
  have e : iblk m c 3 t (ix2 r l) = V m c main_arg3 (ix2 r (col t.val (hn t) l)) := by
    unfold iblk
    rw [View.read_apply]
    show V m c main_arg3 _ = V m c main_arg3 _
    congr 1
    funext a
    apply Fin.ext
    match a with
    | ⟨0, _⟩ => show win0_3.index t 0 * 1792 + 1 * r.val = r.val; rw [idx3]; show 0 * 1792 + 1 * r.val = _; omega
    | ⟨1, _⟩ => show win0_3.index t 1 * 256 + 1 * l.val = 256 * t.val + l.val; rw [idx3]; show t.val * 256 + 1 * l.val = _; omega
  refine e.trans ?_
  rw [V_main_arg3]; rfl

/-- At every step the group scales' block is the step's panel of columns. -/
theorem idx4 : ∀ t : Fin cfg0.N, win0_4.index t = ![0, t.val] := by decide +kernel

/-- An element of the group scales' block at a step, read off the arguments at the step's column. -/
theorem blk4 (t : Fin cfg0.N) (r : Fin 28) (l : Fin 256) : iblk m c 4 t (ix2 r l) = (arr m c).sc (ix2 r (col t.val (hn t) l)) := by
  have e : iblk m c 4 t (ix2 r l) = V m c main_v4 (ix2 r (col t.val (hn t) l)) := by
    unfold iblk
    rw [View.read_apply]
    show V m c main_v4 _ = V m c main_v4 _
    congr 1
    funext a
    apply Fin.ext
    match a with
    | ⟨0, _⟩ => show win0_4.index t 0 * 28 + 1 * r.val = r.val; rw [idx4]; show 0 * 28 + 1 * r.val = _; omega
    | ⟨1, _⟩ => show win0_4.index t 1 * 256 + 1 * l.val = 256 * t.val + l.val; rw [idx4]; show t.val * 256 + 1 * l.val = _; omega
  refine e.trans ?_
  rw [V_v4]; rfl

/-- At every step the second factor's block is the step's panel of columns. -/
theorem idx7 : ∀ t : Fin cfg0.N, win0_7.index t = ![0, t.val] := by decide +kernel

/-- An element of the second factor's block at a step, read off the arguments at the step's column. -/
theorem blk7 (t : Fin cfg0.N) (r : Fin 64) (l : Fin 256) : iblk m c 7 t (ix2 r l) = (arr m c).b (ix2 r (col t.val (hn t) l)) := by
  have e : iblk m c 7 t (ix2 r l) = V m c main_arg6 (ix2 r (col t.val (hn t) l)) := by
    unfold iblk
    rw [View.read_apply]
    show V m c main_arg6 _ = V m c main_arg6 _
    congr 1
    funext a
    apply Fin.ext
    match a with
    | ⟨0, _⟩ => show win0_7.index t 0 * 64 + 1 * r.val = r.val; rw [idx7]; show 0 * 64 + 1 * r.val = _; omega
    | ⟨1, _⟩ => show win0_7.index t 1 * 256 + 1 * l.val = 256 * t.val + l.val; rw [idx7]; show t.val * 256 + 1 * l.val = _; omega
  refine e.trans ?_
  rw [V_main_arg6]; rfl

/-- At every step the magnitude's block is the step's panel of columns. -/
theorem idx8 : ∀ t : Fin cfg0.N, win0_8.index t = ![0, t.val] := by decide +kernel

/-- An element of the magnitude's block at a step, read off the arguments at the step's column. -/
theorem blk8 (t : Fin cfg0.N) (r : Fin 1) (l : Fin 256) : iblk m c 8 t (ix2 r l) = (arr m c).mag (ix1 (col t.val (hn t) l)) := by
  have e : iblk m c 8 t (ix2 r l) = V m c main_v6 (ix2 r (col t.val (hn t) l)) := by
    unfold iblk
    rw [View.read_apply]
    show V m c main_v6 _ = V m c main_v6 _
    congr 1
    funext a
    apply Fin.ext
    match a with
    | ⟨0, _⟩ => show win0_8.index t 0 * 1 + 1 * r.val = r.val; rw [idx8]; show 0 * 1 + 1 * r.val = _; omega
    | ⟨1, _⟩ => show win0_8.index t 1 * 256 + 1 * l.val = 256 * t.val + l.val; rw [idx8]; show t.val * 256 + 1 * l.val = _; omega
  refine e.trans ?_
  rw [V_v6]; exact (congrArg _ (by rw [Fin.fin_one_eq_zero r])).trans (flat_o _ _)

/-- At every step the column norm's block is the step's panel of columns. -/
theorem idx9 : ∀ t : Fin cfg0.N, win0_9.index t = ![0, t.val] := by decide +kernel

/-- An element of the column norm's block at a step, read off the arguments at the step's column. -/
theorem blk9 (t : Fin cfg0.N) (r : Fin 1) (l : Fin 256) : iblk m c 9 t (ix2 r l) = (arr m c).cn (ix1 (col t.val (hn t) l)) := by
  have e : iblk m c 9 t (ix2 r l) = V m c main_v7 (ix2 r (col t.val (hn t) l)) := by
    unfold iblk
    rw [View.read_apply]
    show V m c main_v7 _ = V m c main_v7 _
    congr 1
    funext a
    apply Fin.ext
    match a with
    | ⟨0, _⟩ => show win0_9.index t 0 * 1 + 1 * r.val = r.val; rw [idx9]; show 0 * 1 + 1 * r.val = _; omega
    | ⟨1, _⟩ => show win0_9.index t 1 * 256 + 1 * l.val = 256 * t.val + l.val; rw [idx9]; show t.val * 256 + 1 * l.val = _; omega
  refine e.trans ?_
  rw [V_v7]; exact (congrArg _ (by rw [Fin.fin_one_eq_zero r])).trans (flat_o _ _)

/-- At every step the token scales' (column) block is the whole array. -/
theorem idx1 : ∀ t : Fin cfg0.N, win0_1.index t = ![0, 0] := by decide +kernel

/-- An element of the token scales' (column) block at a step, read off the arguments. -/
theorem blk1 (t : Fin cfg0.N) (r : Fin 1920) (l : Fin 1) : iblk m c 1 t (ix2 r l) = (arr m c).s r := by
  have e : iblk m c 1 t (ix2 r l) = V m c main_v2 (ix2 r l) := by
    unfold iblk
    rw [View.read_apply]
    show V m c main_v2 _ = V m c main_v2 _
    congr 1
    funext a
    apply Fin.ext
    match a with
    | ⟨0, _⟩ => show win0_1.index t 0 * 1920 + 1 * r.val = r.val; rw [idx1]; show 0 * 1920 + 1 * r.val = _; omega
    | ⟨1, _⟩ => show win0_1.index t 1 * 1 + 1 * l.val = l.val; rw [idx1]; show 0 * 1 + 1 * l.val = _; omega
  refine e.trans ?_
  rw [V_v2]; exact (congrArg _ (by rw [Fin.fin_one_eq_zero l])).trans (flat_s _ r)

/-- At every step the token scales' (row) block is the whole array. -/
theorem idx2 : ∀ t : Fin cfg0.N, win0_2.index t = ![0, 0] := by decide +kernel

/-- An element of the token scales' (row) block at a step, read off the arguments. -/
theorem blk2 (t : Fin cfg0.N) (r : Fin 1) (l : Fin 1920) : iblk m c 2 t (ix2 r l) = (arr m c).s l := by
  have e : iblk m c 2 t (ix2 r l) = V m c main_v3 (ix2 r l) := by
    unfold iblk
    rw [View.read_apply]
    show V m c main_v3 _ = V m c main_v3 _
    congr 1
    funext a
    apply Fin.ext
    match a with
    | ⟨0, _⟩ => show win0_2.index t 0 * 1 + 1 * r.val = r.val; rw [idx2]; show 0 * 1 + 1 * r.val = _; omega
    | ⟨1, _⟩ => show win0_2.index t 1 * 1920 + 1 * l.val = l.val; rw [idx2]; show 0 * 1920 + 1 * l.val = _; omega
  refine e.trans ?_
  rw [V_v3]; exact (congrArg _ (by rw [Fin.fin_one_eq_zero r])).trans (flat_sr _ l)

/-- At every step the first factor's block is the whole array. -/
theorem idx5 : ∀ t : Fin cfg0.N, win0_5.index t = ![0, 0] := by decide +kernel

/-- An element of the first factor's block at a step, read off the arguments. -/
theorem blk5 (t : Fin cfg0.N) (r : Fin 3584) (l : Fin 64) : iblk m c 5 t (ix2 r l) = (arr m c).a (ix2 r l) := by
  have e : iblk m c 5 t (ix2 r l) = V m c main_arg5 (ix2 r l) := by
    unfold iblk
    rw [View.read_apply]
    show V m c main_arg5 _ = V m c main_arg5 _
    congr 1
    funext a
    apply Fin.ext
    match a with
    | ⟨0, _⟩ => show win0_5.index t 0 * 3584 + 1 * r.val = r.val; rw [idx5]; show 0 * 3584 + 1 * r.val = _; omega
    | ⟨1, _⟩ => show win0_5.index t 1 * 64 + 1 * l.val = l.val; rw [idx5]; show 0 * 64 + 1 * l.val = _; omega
  refine e.trans ?_
  rw [V_main_arg5]; rfl

/-- At every step the transposed first factor's block is the whole array. -/
theorem idx6 : ∀ t : Fin cfg0.N, win0_6.index t = ![0, 0] := by decide +kernel

/-- An element of the transposed first factor's block at a step, read off the arguments. -/
theorem blk6 (t : Fin cfg0.N) (r : Fin 64) (l : Fin 3584) : iblk m c 6 t (ix2 r l) = (arr m c).a (ix2 l r) := by
  have e : iblk m c 6 t (ix2 r l) = V m c main_v5 (ix2 r l) := by
    unfold iblk
    rw [View.read_apply]
    show V m c main_v5 _ = V m c main_v5 _
    congr 1
    funext a
    apply Fin.ext
    match a with
    | ⟨0, _⟩ => show win0_6.index t 0 * 64 + 1 * r.val = r.val; rw [idx6]; show 0 * 64 + 1 * r.val = _; omega
    | ⟨1, _⟩ => show win0_6.index t 1 * 3584 + 1 * l.val = l.val; rw [idx6]; show 0 * 3584 + 1 * l.val = _; omega
  refine e.trans ?_
  rw [V_v5]; exact flat_a _ r l

/-- The blocks of step `t` are the arguments at its columns. -/
theorem blk (t : Fin cfg0.N) : Blk (arr m c) t.val (hn t) (iblk m c 0 t) (iblk m c 1 t) (iblk m c 2 t) (iblk m c 3 t)
    (iblk m c 4 t) (iblk m c 5 t) (iblk m c 6 t) (iblk m c 7 t) (iblk m c 8 t) (iblk m c 9 t) where
  e0 r l := blk0 m c t r l
  e1 r := blk1 m c t r 0
  e2 r := blk2 m c t 0 r
  e3 r l := blk3 m c t r l
  e4 r l := blk4 m c t r l
  e5 r l := blk5 m c t r l
  e6 r l := blk6 m c t r l
  e7 r l := blk7 m c t r l
  e8 l := blk8 m c t 0 l
  e9 l := blk9 m c t 0 l

end Cert.Dora
end
-- ==== Proof.Steps.lean ====
module

public import proofs.«01_k».proof.Proof.OpenA
public import proofs.«01_k».proof.Proof.OpenB
public import proofs.«01_k».proof.Proof.OpenC
public import proofs.«01_k».proof.Proof.OpenD
public import proofs.«01_k».proof.Proof.Blocks

@[expose] public section
set_option maxRecDepth 16384

/-! # The steps, one after the other

What each step leaves, by its case — the first step (`A`), a step in the middle (`B`), the last step (`C`) — and then,
by induction over the steps, what the scratch arrays hold: the activations, the adapter's activations, and the three
sums over the columns of the steps so far. -/

noncomputable section
namespace Cert.Dora
open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

section
variable (t : Fin cfg0.N) (h0 : t.val % 74 = 0) (h1 : ¬t.val % 74 = 73)
include h0 h1
/-- At the first step: the second factor's gradient, from the step's blocks alone. -/
theorem db_A : (outsAt0 m c t.val t.isLt).2.1
    = dbB (xB (V m c main_v1)) (vblk (iblk m c 3 t) (iblk m c 4 t) (iblk m c 5 t) (iblk m c 7 t)) (xatB (iblk m c 6 t) (xB (V m c main_v1)) (iblk m c 2 t)) (iblk m c 6 t) (iblk m c 0 t) (iblk m c 1 t) (iblk m c 8 t) (iblk m c 9 t) := by
  rw [outsAt0_A m c t h0 h1]
  dsimp only
  exact out0_A_11_eq ..
/-- At the first step: the magnitude's gradient, from the step's blocks alone. -/
theorem dm_A : (outsAt0 m c t.val t.isLt).2.2.1
    = dmB (xB (V m c main_v1)) (vblk (iblk m c 3 t) (iblk m c 4 t) (iblk m c 5 t) (iblk m c 7 t)) (iblk m c 0 t) (iblk m c 1 t) (iblk m c 9 t) := by
  rw [outsAt0_A m c t h0 h1]
  dsimp only
  exact out0_A_12_eq ..
/-- At the first step: the input gradient's accumulator, from the step's blocks alone. -/
theorem acc_A : (outsAt0 m c t.val t.isLt).2.2.2.2.1
    = accB (k0_pay23 (F := Ideal)) (vblk (iblk m c 3 t) (iblk m c 4 t) (iblk m c 5 t) (iblk m c 7 t)) (iblk m c 0 t) (iblk m c 8 t) (iblk m c 9 t) := by
  rw [outsAt0_A m c t h0 h1]
  dsimp only
  exact sout0_A_1_eq ..
/-- At the first step: the hidden gradient's accumulator, from the step's blocks alone. -/
theorem ht_A : (outsAt0 m c t.val t.isLt).2.2.2.2.2.2.1
    = htB (k0_pay24 (F := Ideal)) (iblk m c 7 t) (iblk m c 0 t) (iblk m c 8 t) (iblk m c 9 t) := by
  rw [outsAt0_A m c t h0 h1]
  dsimp only
  exact sout0_A_6_eq ..
/-- At the first step: the correction's accumulator, from the step's blocks alone. -/
theorem corr_A : (outsAt0 m c t.val t.isLt).2.2.2.2.2.2.2.1
    = corrB (k0_pay25 (F := Ideal)) (xB (V m c main_v1)) (vblk (iblk m c 3 t) (iblk m c 4 t) (iblk m c 5 t) (iblk m c 7 t)) (iblk m c 7 t) (iblk m c 0 t) (iblk m c 1 t) (iblk m c 8 t) (iblk m c 9 t) := by
  rw [outsAt0_A m c t h0 h1]
  dsimp only
  exact sout0_A_7_eq ..
/-- At the first step: the activations, from the step's blocks alone. -/
theorem x_A : (outsAt0 m c t.val t.isLt).2.2.2.1
    = (xB (V m c main_v1)) := by
  rw [outsAt0_A m c t h0 h1]
  dsimp only
  exact sout0_A_0_eq ..
/-- At the first step: the adapter's activations, from the step's blocks alone. -/
theorem xat_A : (outsAt0 m c t.val t.isLt).2.2.2.2.2.1
    = (xatB (iblk m c 6 t) (xB (V m c main_v1)) (iblk m c 2 t)) := by
  rw [outsAt0_A m c t h0 h1]
  dsimp only
  exact sout0_A_5_eq ..
end

section
variable (t : Fin cfg0.N) (h0 : ¬t.val % 74 = 0) (h1 : ¬t.val % 74 = 73)
include h0 h1
/-- At a middle step: the second factor's gradient, from the step's blocks and what the step before left. -/
theorem db_B : (outsAt0 m c t.val t.isLt).2.1
    = dbB (outsAt0 m c (t.val - 1) (Nat.lt_of_le_of_lt (Nat.sub_le _ _) t.isLt)).2.2.2.1 (vblk (iblk m c 3 t) (iblk m c 4 t) (iblk m c 5 t) (iblk m c 7 t)) (outsAt0 m c (t.val - 1) (Nat.lt_of_le_of_lt (Nat.sub_le _ _) t.isLt)).2.2.2.2.2.1 (iblk m c 6 t) (iblk m c 0 t) (iblk m c 1 t) (iblk m c 8 t) (iblk m c 9 t) := by
  rw [outsAt0_B m c t h0 h1]
  dsimp only
  exact out0_B_11_eq ..
/-- At a middle step: the magnitude's gradient, from the step's blocks and what the step before left. -/
theorem dm_B : (outsAt0 m c t.val t.isLt).2.2.1
    = dmB (outsAt0 m c (t.val - 1) (Nat.lt_of_le_of_lt (Nat.sub_le _ _) t.isLt)).2.2.2.1 (vblk (iblk m c 3 t) (iblk m c 4 t) (iblk m c 5 t) (iblk m c 7 t)) (iblk m c 0 t) (iblk m c 1 t) (iblk m c 9 t) := by
  rw [outsAt0_B m c t h0 h1]
  dsimp only
  exact out0_B_12_eq ..
/-- At a middle step: the input gradient's accumulator, from the step's blocks and what the step before left. -/
theorem acc_B : (outsAt0 m c t.val t.isLt).2.2.2.2.1
    = accB (outsAt0 m c (t.val - 1) (Nat.lt_of_le_of_lt (Nat.sub_le _ _) t.isLt)).2.2.2.2.1 (vblk (iblk m c 3 t) (iblk m c 4 t) (iblk m c 5 t) (iblk m c 7 t)) (iblk m c 0 t) (iblk m c 8 t) (iblk m c 9 t) := by
  rw [outsAt0_B m c t h0 h1]
  dsimp only
  exact sout0_B_1_eq ..
/-- At a middle step: the hidden gradient's accumulator, from the step's blocks and what the step before left. -/
theorem ht_B : (outsAt0 m c t.val t.isLt).2.2.2.2.2.2.1
    = htB (outsAt0 m c (t.val - 1) (Nat.lt_of_le_of_lt (Nat.sub_le _ _) t.isLt)).2.2.2.2.2.2.1 (iblk m c 7 t) (iblk m c 0 t) (iblk m c 8 t) (iblk m c 9 t) := by
  rw [outsAt0_B m c t h0 h1]
  dsimp only
  exact sout0_B_6_eq ..
/-- At a middle step: the correction's accumulator, from the step's blocks and what the step before left. -/
theorem corr_B : (outsAt0 m c t.val t.isLt).2.2.2.2.2.2.2.1
    = corrB (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.1 (vblk (iblk m c 3 t) (iblk m c 4 t) (iblk m c 5 t) (iblk m c 7 t)) (iblk m c 7 t) (iblk m c 0 t) (iblk m c 1 t) (iblk m c 8 t) (iblk m c 9 t) := by
  rw [outsAt0_B m c t h0 h1]
  dsimp only
  exact sout0_B_7_eq ..
/-- At a middle step the activations stay as they were. -/
theorem x_B : (outsAt0 m c t.val t.isLt).2.2.2.1
    = (outsAt0 m c (t.val - 1) (Nat.lt_of_le_of_lt (Nat.sub_le _ _) t.isLt)).2.2.2.1 := by
  rw [outsAt0_B m c t h0 h1]
  exact rfl
/-- At a middle step the adapter's activations stay as they were. -/
theorem xat_B : (outsAt0 m c t.val t.isLt).2.2.2.2.2.1
    = (outsAt0 m c (t.val - 1) (Nat.lt_of_le_of_lt (Nat.sub_le _ _) t.isLt)).2.2.2.2.2.1 := by
  rw [outsAt0_B m c t h0 h1]
  exact rfl
end

section
variable (t : Fin cfg0.N) (h0 : ¬t.val % 74 = 0) (h1 : t.val % 74 = 73)
include h0 h1
/-- At the last step: the second factor's gradient, from the step's blocks and what the step before left. -/
theorem db_C : (outsAt0 m c t.val t.isLt).2.1
    = dbB (outsAt0 m c (t.val - 1) (Nat.lt_of_le_of_lt (Nat.sub_le _ _) t.isLt)).2.2.2.1 (vblk (iblk m c 3 t) (iblk m c 4 t) (iblk m c 5 t) (iblk m c 7 t)) (outsAt0 m c (t.val - 1) (Nat.lt_of_le_of_lt (Nat.sub_le _ _) t.isLt)).2.2.2.2.2.1 (iblk m c 6 t) (iblk m c 0 t) (iblk m c 1 t) (iblk m c 8 t) (iblk m c 9 t) := by
  rw [outsAt0_C m c t h0 h1]
  dsimp only
  exact out0_C_11_eq ..
/-- At the last step: the magnitude's gradient, from the step's blocks and what the step before left. -/
theorem dm_C : (outsAt0 m c t.val t.isLt).2.2.1
    = dmB (outsAt0 m c (t.val - 1) (Nat.lt_of_le_of_lt (Nat.sub_le _ _) t.isLt)).2.2.2.1 (vblk (iblk m c 3 t) (iblk m c 4 t) (iblk m c 5 t) (iblk m c 7 t)) (iblk m c 0 t) (iblk m c 1 t) (iblk m c 9 t) := by
  rw [outsAt0_C m c t h0 h1]
  dsimp only
  exact out0_C_12_eq ..
/-- At the last step: the input gradient's accumulator, from the step's blocks and what the step before left. -/
theorem acc_C : (outsAt0 m c t.val t.isLt).2.2.2.2.1
    = accB (outsAt0 m c (t.val - 1) (Nat.lt_of_le_of_lt (Nat.sub_le _ _) t.isLt)).2.2.2.2.1 (vblk (iblk m c 3 t) (iblk m c 4 t) (iblk m c 5 t) (iblk m c 7 t)) (iblk m c 0 t) (iblk m c 8 t) (iblk m c 9 t) := by
  rw [outsAt0_C m c t h0 h1]
  dsimp only
  exact sout0_C_1_eq ..
/-- At the last step: the hidden gradient's accumulator, from the step's blocks and what the step before left. -/
theorem ht_C : (outsAt0 m c t.val t.isLt).2.2.2.2.2.2.1
    = htB (outsAt0 m c (t.val - 1) (Nat.lt_of_le_of_lt (Nat.sub_le _ _) t.isLt)).2.2.2.2.2.2.1 (iblk m c 7 t) (iblk m c 0 t) (iblk m c 8 t) (iblk m c 9 t) := by
  rw [outsAt0_C m c t h0 h1]
  dsimp only
  exact sout0_C_6_eq ..
/-- At the last step: the correction's accumulator, from the step's blocks and what the step before left. -/
theorem corr_C : (outsAt0 m c t.val t.isLt).2.2.2.2.2.2.2.1
    = corrB (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.1 (vblk (iblk m c 3 t) (iblk m c 4 t) (iblk m c 5 t) (iblk m c 7 t)) (iblk m c 7 t) (iblk m c 0 t) (iblk m c 1 t) (iblk m c 8 t) (iblk m c 9 t) := by
  rw [outsAt0_C m c t h0 h1]
  dsimp only
  exact sout0_C_7_eq ..
/-- At the last step: the transposed first factor's gradient, from the step's blocks and what the step before left. -/
theorem dat_C : (outsAt0 m c t.val t.isLt).1
    = datB (htB (outsAt0 m c (t.val - 1) (Nat.lt_of_le_of_lt (Nat.sub_le _ _) t.isLt)).2.2.2.2.2.2.1 (iblk m c 7 t) (iblk m c 0 t) (iblk m c 8 t) (iblk m c 9 t)) (corrB (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.1 (vblk (iblk m c 3 t) (iblk m c 4 t) (iblk m c 5 t) (iblk m c 7 t)) (iblk m c 7 t) (iblk m c 0 t) (iblk m c 1 t) (iblk m c 8 t) (iblk m c 9 t)) (outsAt0 m c (t.val - 1) (Nat.lt_of_le_of_lt (Nat.sub_le _ _) t.isLt)).2.2.2.1 (iblk m c 1 t) := by
  rw [outsAt0_C m c t h0 h1]
  dsimp only
  exact out0_C_10_eq ..
/-- At the last step: the array that is sent out, from the step's blocks and what the step before left. -/
theorem dx_C : (outsAt0 m c t.val t.isLt).2.2.2.2.2.2.2.2
    = dxB (accB (outsAt0 m c (t.val - 1) (Nat.lt_of_le_of_lt (Nat.sub_le _ _) t.isLt)).2.2.2.2.1 (vblk (iblk m c 3 t) (iblk m c 4 t) (iblk m c 5 t) (iblk m c 7 t)) (iblk m c 0 t) (iblk m c 8 t) (iblk m c 9 t)) := by
  rw [outsAt0_C m c t h0 h1]
  dsimp only
  exact hbw0_C_1_eq ..
end

end Cert.Dora
end
-- ==== Proof.State.lean ====
module

public import proofs.«01_k».proof.Proof.Steps

@[expose] public section
set_option maxRecDepth 16384

/-! # What the scratch arrays hold after each step, and what each step writes out

By induction over the steps: the activations, the adapter's activations, and the three sums over the columns of the
steps so far. So the last step's sums run over all columns, and every block written out is the problem's own. -/

noncomputable section
namespace Cert.Dora
open Idealize.ShloMosaic Idealize.ShloMosaic.TcCoe Idealize.ShloMosaic.Tactic Idealize.SL.Sem
open Cert.KernelIdeal Cert.KernelIdeal.Gen

/-- The input gradient's accumulator starts at zero. -/
theorem zero_acc (t : Fin 1920) (i : Fin 3584) : (k0_pay23 (F := Ideal)) (ix2 t i) = 0 := by
  unfold k0_pay23
  pointwise
/-- The hidden gradient's accumulator starts at zero. -/
theorem zero_ht (r : Fin 64) (t : Fin 1920) : (k0_pay24 (F := Ideal)) (ix2 r t) = 0 := by
  unfold k0_pay24
  pointwise
/-- The correction's accumulator starts at zero. -/
theorem zero_corr (r : Fin 64) (i : Fin 3584) : (k0_pay25 (F := Ideal)) (ix2 r i) = 0 := by
  unfold k0_pay25
  pointwise

/-- What the scratch arrays hold when `n` steps are done. -/
structure St (A : Arr) (n : ℕ) (x : Vec Ideal S1920x3584 .bf16) (acc : Vec Ideal S1920x3584 .f32)
    (xat : Vec Ideal S64x1920 .bf16) (ht : Vec Ideal S64x1920 .f32) (corr : Vec Ideal S64x3584 .f32) : Prop where
  hx : ∀ t i, x (ix2 t i) = A.X t i
  hacc : ∀ t i, acc (ix2 t i) = part (fun o => A.Dyp t o * A.W i o) n
  hxat : ∀ r t, xat (ix2 r t) = A.XAT r t
  hht : ∀ r t, ht (ix2 r t) = part (fun o => A.b (ix2 r o) * A.Dyp t o) n
  hcorr : ∀ r i, corr (ix2 r i) = part (fun o => A.b (ix2 r o) * A.VC i o) n

section
variable {A : Arr} {n : ℕ} {hn : n < 74} {x0 : Vec Ideal S1920x256 .bf16} {x1 : Vec Ideal S1920x1 .f32}
  {x2 : Vec Ideal S1x1920 .f32} {x3 : Vec Ideal S1792x256 .i8} {x4 : Vec Ideal S28x256 .f32}
  {x5 : Vec Ideal S3584x64 .bf16} {x6 : Vec Ideal S64x3584 .bf16} {x7 : Vec Ideal S64x256 .bf16}
  {x8 x9 : Vec Ideal S1x256 .f32} (B : Blk A n hn x0 x1 x2 x3 x4 x5 x6 x7 x8 x9)
  {x : Vec Ideal S1920x3584 .bf16} {acc : Vec Ideal S1920x3584 .f32}
    {xat : Vec Ideal S64x1920 .bf16} {ht : Vec Ideal S64x1920 .f32} {corr : Vec Ideal S64x3584 .f32}
    (s : St A n x acc xat ht corr)
include B s

/-- One more step adds its columns to the three sums and keeps the activations. -/
theorem St.next : St A (n + 1) x (accB acc (vblk x3 x4 x5 x7) x0 x8 x9) xat (htB ht x7 x0 x8 x9)
    (corrB corr x (vblk x3 x4 x5 x7) x7 x0 x1 x8 x9) where
  hx := s.hx
  hacc t i := by rw [accB_eq B (vblk_eq B), s.hacc, part_succ _ _ hn]
  hxat := s.hxat
  hht r t := by rw [htB_eq B, s.hht, part_succ _ _ hn]
  hcorr r i := by rw [corrB_eq B s.hx (vblk_eq B), s.hcorr, part_succ _ _ hn]
end

variable (m : (ℓ : Loc nD τ sig) → Buf (Elt Ideal) ℓ) (c : Dev nD)

/-- Before the first step: the sums are empty. -/
theorem st_zero (t : Fin cfg0.N) : St (arr m c) 0 (xB (V m c main_v1)) (k0_pay23 (F := Ideal))
    (xatB (iblk m c 6 t) (xB (V m c main_v1)) (iblk m c 2 t)) (k0_pay24 (F := Ideal)) (k0_pay25 (F := Ideal)) where
  hx := x_eq m c
  hacc a i := (zero_acc a i).trans (part_zero _).symm
  hxat := xatB_eq (blk m c t) (x_eq m c)
  hht r a := (zero_ht r a).trans (part_zero _).symm
  hcorr r i := (zero_corr r i).trans (part_zero _).symm

/-- The state carries over to equal contents. -/
theorem St.of_eq {A : Arr} {n : ℕ} {x x' : Vec Ideal S1920x3584 .bf16} {acc acc' : Vec Ideal S1920x3584 .f32}
    {xat xat' : Vec Ideal S64x1920 .bf16} {ht ht' : Vec Ideal S64x1920 .f32} {corr corr' : Vec Ideal S64x3584 .f32}
    (e0 : x' = x) (e1 : acc' = acc) (e2 : xat' = xat) (e3 : ht' = ht) (e4 : corr' = corr)
    (s : St A n x acc xat ht corr) : St A n x' acc' xat' ht' corr' := by
  subst e0 e1 e2 e3 e4
  exact s

/-- After every step but the last the scratch arrays hold the sums over the columns so far. -/
theorem st (n : ℕ) : ∀ (h : n < cfg0.N), n < 73 → St (arr m c) (n + 1) (outsAt0 m c n h).2.2.2.1
    (outsAt0 m c n h).2.2.2.2.1 (outsAt0 m c n h).2.2.2.2.2.1 (outsAt0 m c n h).2.2.2.2.2.2.1
    (outsAt0 m c n h).2.2.2.2.2.2.2.1 := by
  induction n with
  | zero =>
    intro h h73
    have h0 : (⟨0, h⟩ : Fin cfg0.N).val % 74 = 0 := rfl
    have h1 : ¬(⟨0, h⟩ : Fin cfg0.N).val % 74 = 73 := by show ¬(0 % 74 = 73); omega
    exact ((st_zero m c ⟨0, h⟩).next (blk m c ⟨0, h⟩)).of_eq (x_A m c ⟨0, h⟩ h0 h1) (acc_A m c ⟨0, h⟩ h0 h1)
      (xat_A m c ⟨0, h⟩ h0 h1) (ht_A m c ⟨0, h⟩ h0 h1) (corr_A m c ⟨0, h⟩ h0 h1)
  | succ n ih =>
    intro h h73
    have h0 : ¬(⟨n + 1, h⟩ : Fin cfg0.N).val % 74 = 0 := by show ¬((n + 1) % 74 = 0); omega
    have h1 : ¬(⟨n + 1, h⟩ : Fin cfg0.N).val % 74 = 73 := by show ¬((n + 1) % 74 = 73); omega
    exact ((ih (by omega) (by omega)).next (blk m c ⟨n + 1, h⟩)).of_eq (x_B m c ⟨n + 1, h⟩ h0 h1)
      (acc_B m c ⟨n + 1, h⟩ h0 h1) (xat_B m c ⟨n + 1, h⟩ h0 h1) (ht_B m c ⟨n + 1, h⟩ h0 h1) (corr_B m c ⟨n + 1, h⟩ h0 h1)

/-- The scratch arrays as a step after the first finds them. -/
theorem st_prev (t : Fin cfg0.N) (h0 : ¬t.val % 74 = 0) : St (arr m c) t.val
    (outsAt0 m c (t.val - 1) (Nat.lt_of_le_of_lt (Nat.sub_le _ _) t.isLt)).2.2.2.1
    (outsAt0 m c (t.val - 1) (Nat.lt_of_le_of_lt (Nat.sub_le _ _) t.isLt)).2.2.2.2.1
    (outsAt0 m c (t.val - 1) (Nat.lt_of_le_of_lt (Nat.sub_le _ _) t.isLt)).2.2.2.2.2.1
    (outsAt0 m c (t.val - 1) (Nat.lt_of_le_of_lt (Nat.sub_le _ _) t.isLt)).2.2.2.2.2.2.1
    (outsAt0 m c (t.val - 1) (Nat.lt_of_le_of_lt (Nat.sub_le _ _) t.isLt)).2.2.2.2.2.2.2.1 := by
  obtain ⟨n, h⟩ := t
  have h74 : n < 74 := hn ⟨n, h⟩
  cases n with
  | zero => exact absurd rfl h0
  | succ n => exact st m c n _ (by omega)

/-- Every step writes out the magnitude gradient of its columns. -/
theorem dm_out (t : Fin cfg0.N) (l : Fin 256) :
    (outsAt0 m c t.val t.isLt).2.2.1 (ix2 0 l) = (arr m c).DM (col t.val (hn t) l) := by
  by_cases h0 : t.val % 74 = 0
  · have h1 : ¬t.val % 74 = 73 := by omega
    rw [dm_A m c t h0 h1]
    exact dmB_eq (blk m c t) (x_eq m c) (vblk_eq (blk m c t)) l
  · by_cases h1 : t.val % 74 = 73
    · rw [dm_C m c t h0 h1]
      exact dmB_eq (blk m c t) (st_prev m c t h0).hx (vblk_eq (blk m c t)) l
    · rw [dm_B m c t h0 h1]
      exact dmB_eq (blk m c t) (st_prev m c t h0).hx (vblk_eq (blk m c t)) l

/-- Every step writes out the gradient of the second factor at its columns. -/
theorem db_out (t : Fin cfg0.N) (r : Fin 64) (l : Fin 256) :
    (outsAt0 m c t.val t.isLt).2.1 (ix2 r l) = (arr m c).DB r (col t.val (hn t) l) := by
  by_cases h0 : t.val % 74 = 0
  · have h1 : ¬t.val % 74 = 73 := by omega
    rw [db_A m c t h0 h1]
    exact dbB_eq (blk m c t) (x_eq m c) (vblk_eq (blk m c t)) (xatB_eq (blk m c t) (x_eq m c)) r l
  · by_cases h1 : t.val % 74 = 73
    · rw [db_C m c t h0 h1]
      exact dbB_eq (blk m c t) (st_prev m c t h0).hx (vblk_eq (blk m c t)) (st_prev m c t h0).hxat r l
    · rw [db_B m c t h0 h1]
      exact dbB_eq (blk m c t) (st_prev m c t h0).hx (vblk_eq (blk m c t)) (st_prev m c t h0).hxat r l

section
variable (t : Fin cfg0.N) (h1 : t.val % 74 = 73)
include h1

omit h1 in
/-- The last step's transposed gradient of the first factor, at an index. -/
theorem datB_apply (ht : Vec Ideal S64x1920 .f32) (corr : Vec Ideal S64x3584 .f32) (x : Vec Ideal S1920x3584 .bf16)
    (x1 : Vec Ideal S1920x1 .f32) (r : Fin 64) (i : Fin 3584) : datB ht corr x x1 (ix2 r i)
      = half * (∑ a : Fin 1920, ht (ix2 r a) * (x (ix2 a i) * x1 (ix2 a 0)) - corr (ix2 r i)) := rfl

/-- The last step is the seventy-fourth. -/
theorem last_eq : t.val + 1 = 74 := by have := hn t; omega

/-- The last step writes out the gradient of the first factor, transposed. -/
theorem dat_out (r : Fin 64) (i : Fin 3584) : (outsAt0 m c t.val t.isLt).1 (ix2 r i) = (arr m c).DAT r i := by
  have h0 : ¬t.val % 74 = 0 := by omega
  have s := st_prev m c t h0
  have s' := s.next (blk m c t)
  rw [last_eq t h1] at s'
  rw [dat_C m c t h0 h1, datB_apply, s'.hcorr r i, part_all]
  unfold Arr.DAT Arr.CORR Arr.HT
  refine congrArg (fun z => half * (z - _)) (Finset.sum_congr rfl fun a _ => ?_)
  rw [s'.hx, (blk m c t).e1, s'.hht r a, part_all]

/-- The last step sends out the gradient of the activations. -/
theorem dx_out (a : Fin 1920) (i : Fin 3584) :
    (outsAt0 m c t.val t.isLt).2.2.2.2.2.2.2.2 (ix2 a i) = (arr m c).DX a i := by
  have h0 : ¬t.val % 74 = 0 := by omega
  have s' := (st_prev m c t h0).next (blk m c t)
  rw [last_eq t h1] at s'
  have e : ∀ acc : Vec Ideal S1920x3584 .f32, dxB acc (ix2 a i) = acc (ix2 a i) := fun acc => by
    unfold dxB
    rfl
  exact (congrFun (dx_C m c t h0 h1) (ix2 a i)).trans ((e _).trans ((s'.hacc a i).trans (part_all _)))
end
end Cert.Dora
end
-- ==== Proof.KValue.lean ====
module

public import proofs.«01_k».proof.Proof.FrameRun
public import Idealize.ShloMosaic.Lib.Pipeline.Value

/-! # The run, with each result array named

After the run each result is what the steps wrote back, block by block. -/

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the run's contents for that window after the body (`Gen.outsAt0`: its component 0), read through the window's block. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 74 = 0) (h1 : ¬t.val % 74 = 73) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0)) := by
  rw [flushed10, outsAt0_A m c t h0 h1]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 74 = 0) (h1 : ¬t.val % 74 = 73) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  rw [flushed10, outsAt0_B m c t h0 h1]

/-- … so at a point where case C runs, what its write-back would write is that case's NAMED TERM for the window (`Gen.out0_C_10`: the pieces
    its run found, read back) at the point's memrefs and input blocks, and for an output the case reads back what the point before left (`Gen.outsAt0` at `t - 1`) — by the frame's rewriting lemma for the case. -/
theorem flushed10_C (c : Dev nD) (t : Fin cfg0.N) (h0 : ¬t.val % 74 = 0) (h1 : t.val % 74 = 73) :
    (dats m 0 c).flushed 10 t = (cfg0.win 10).cut (grid0.coords t) (out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  rw [flushed10, outsAt0_C m c t h0 h1]

-- no `blocks10`: window 10's index map revisits a block index, or its points could not be enumerated here;
-- the final array is still the frame's `arrAt`, to read with Lib/Pipeline/Value.lean's lemmas by hand

/-- An index that no flushing point's block covers keeps output window 10's array contents at region entry. -/
theorem entry10 (c : Dev nD) (i : S64x3584.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the run's contents for that window after the body (`Gen.outsAt0`: its component 1), read through the window's block. -/
theorem flushed11 (c : Dev nD) (t : Fin cfg0.N) :
    (dats m 0 c).flushed 11 t = (cfg0.win 11).cut (grid0.coords t) ((outsAt0 m c t.val t.isLt).2.1) := by
  show (cfg0.win 11).cut (grid0.coords t) ((dats m 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — by the frame's rewriting lemma for the case. -/
theorem flushed11_A (c : Dev nD) (t : Fin cfg0.N) (h0 : t.val % 74 = 0) (h1 : ¬t.val % 74 = 73) :
    (dats m 0 c).flushed 11 t = (cfg0.win 11).cut (grid0.coords t) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0)) := by
  rw [flushed11, outsAt0_A m c t h0 h1]

/-- … so at a point where case B runs, what its write-back would write is that case's NAMED TERM for the window (`Gen.out0_B_11`: the pieces
    its run found, read back) at the point's memrefs and input blocks, and for an output the case reads back what the point before left (`Gen.outsAt0` at `t - 1`) — by the frame's rewriting lemma for the case. -/
theorem flushed11_B (c : Dev nD) (t : Fin cfg0.N) (h0 : ¬t.val % 74 = 0) (h1 : ¬t.val % 74 = 73) :
    (dats m 0 c).flushed 11 t = (cfg0.win 11).cut (grid0.coords t) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  rw [flushed11, outsAt0_B m c t h0 h1]

/-- … so at a point where case C runs, what its write-back would write is that case's NAMED TERM for the window (`Gen.out0_C_11`: the pieces
    its run found, read back) at the point's memrefs and input blocks, and for an output the case reads back what the point before left (`Gen.outsAt0` at `t - 1`) — by the frame's rewriting lemma for the case. -/
theorem flushed11_C (c : Dev nD) (t : Fin cfg0.N) (h0 : ¬t.val % 74 = 0) (h1 : t.val % 74 = 73) :
    (dats m 0 c).flushed 11 t = (cfg0.win 11).cut (grid0.coords t) (out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  rw [flushed11, outsAt0_C m c t h0 h1]

/-- The index map sends distinct grid points to distinct block indices (decided over the 74 points). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S64x18944.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the run's contents for that window after the body (`Gen.outsAt0`: its component 2), read through the window's block. -/
theorem flushed12 (c : Dev nD) (t : Fin cfg0.N) :
    (dats m 0 c).flushed 12 t = (cfg0.win 12).cut (grid0.coords t) ((outsAt0 m c t.val t.isLt).2.2.1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — by the frame's rewriting lemma for the case. -/
theorem flushed12_A (c : Dev nD) (t : Fin cfg0.N) (h0 : t.val % 74 = 0) (h1 : ¬t.val % 74 = 73) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (V m c main_v1) (V m c main_v8_0)) := by
  rw [flushed12, outsAt0_A m c t h0 h1]

/-- … so at a point where case B runs, what its write-back would write is that case's NAMED TERM for the window (`Gen.out0_B_12`: the pieces
    its run found, read back) at the point's memrefs and input blocks, and for an output the case reads back what the point before left (`Gen.outsAt0` at `t - 1`) — by the frame's rewriting lemma for the case. -/
theorem flushed12_B (c : Dev nD) (t : Fin cfg0.N) (h0 : ¬t.val % 74 = 0) (h1 : ¬t.val % 74 = 73) :
    (dats m 0 c).flushed 12 t = (cfg0.win 12).cut (grid0.coords t) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  rw [flushed12, outsAt0_B m c t h0 h1]

/-- … so at a point where case C runs, what its write-back would write is that case's NAMED TERM for the window (`Gen.out0_C_12`: the pieces
    its run found, read back) at the point's memrefs and input blocks, and for an output the case reads back what the point before left (`Gen.outsAt0` at `t - 1`) — by the frame's rewriting lemma for the case. -/
theorem flushed12_C (c : Dev nD) (t : Fin cfg0.N) (h0 : ¬t.val % 74 = 0) (h1 : t.val % 74 = 73) :
    (dats m 0 c).flushed 12 t = (cfg0.win 12).cut (grid0.coords t) (out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (V m c main_v1) (outsAt0 m c (t.val - 1) (Nat.lt_of_le_of_lt (Nat.sub_le _ _) t.isLt)).2.2.2.2.2.2.2.2) := by
  rw [flushed12, outsAt0_C m c t h0 h1]

/-- The index map sends distinct grid points to distinct block indices (decided over the 74 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S1x18944.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 10's array is `(dats m 0 c).arrAt 10 N`. -/
theorem post10 (r : PUnit × MemSt nD τ sig (Elt F)) (h : Pipeline.FramePostRG cfgs (dats m) 0 R0 (V m) (hbG0 m) r) (c : Dev nD) :
    r.2.mem ((c : Thread nD τ).loc main_v8_1) = (dats m 0 c).arrAt 10 cfg0.N :=
  (h.toR c).1 10

/-- After the frame run, output window 11's array is `(dats m 0 c).arrAt 11 N`. -/
theorem post11 (r : PUnit × MemSt nD τ sig (Elt F)) (h : Pipeline.FramePostRG cfgs (dats m) 0 R0 (V m) (hbG0 m) r) (c : Dev nD) :
    r.2.mem ((c : Thread nD τ).loc main_v8_2) = (dats m 0 c).arrAt 11 cfg0.N :=
  (h.toR c).1 11

/-- After the frame run, output window 12's array is `(dats m 0 c).arrAt 12 N`. -/
theorem post12 (r : PUnit × MemSt nD τ sig (Elt F)) (h : Pipeline.FramePostRG cfgs (dats m) 0 R0 (V m) (hbG0 m) r) (c : Dev nD) :
    r.2.mem ((c : Thread nD τ).loc main_v8_3) = (dats m 0 c).arrAt 12 cfg0.N :=
  (h.toR c).1 12

/-- After the frame run, argument `main_arg0` is as launched: no window stages it, and the run leaves the region's other buffers as they were (it is none of `Gen.R0`, the buffers the body itself writes). -/
theorem kept_main_arg0 (r : PUnit × MemSt nD τ sig (Elt F)) (h : Pipeline.FramePostRG cfgs (dats m) 0 R0 (V m) (hbG0 m) r) (c : Dev nD) :
    r.2.mem ((c : Thread nD τ).loc main_arg0) = m ((c : Thread nD τ).loc main_arg0) :=
  ((h.toR c).2 main_arg0 (Finset.mem_sdiff.mpr ⟨Pipeline.mem_restRefs_of main_arg0 (by decide) (by decide), by decide⟩)).trans (V_main_arg0 m c)

/-- After the frame run, argument `main_arg1` is as launched: no window stages it, and the run leaves the region's other buffers as they were (it is none of `Gen.R0`, the buffers the body itself writes). -/
theorem kept_main_arg1 (r : PUnit × MemSt nD τ sig (Elt F)) (h : Pipeline.FramePostRG cfgs (dats m) 0 R0 (V m) (hbG0 m) r) (c : Dev nD) :
    r.2.mem ((c : Thread nD τ).loc main_arg1) = m ((c : Thread nD τ).loc main_arg1) :=
  ((h.toR c).2 main_arg1 (Finset.mem_sdiff.mpr ⟨Pipeline.mem_restRefs_of main_arg1 (by decide) (by decide), by decide⟩)).trans (V_main_arg1 m c)

/-- After the frame run, argument `main_arg2` is as launched: no window stages it, and the run leaves the region's other buffers as they were (it is none of `Gen.R0`, the buffers the body itself writes). -/
theorem kept_main_arg2 (r : PUnit × MemSt nD τ sig (Elt F)) (h : Pipeline.FramePostRG cfgs (dats m) 0 R0 (V m) (hbG0 m) r) (c : Dev nD) :
    r.2.mem ((c : Thread nD τ).loc main_arg2) = m ((c : Thread nD τ).loc main_arg2) :=
  ((h.toR c).2 main_arg2 (Finset.mem_sdiff.mpr ⟨Pipeline.mem_restRefs_of main_arg2 (by decide) (by decide), by decide⟩)).trans (V_main_arg2 m c)

/-- After the frame run, argument `main_arg3` is as launched: input window 3 stages it and never writes it back. -/
theorem kept_main_arg3 (r : PUnit × MemSt nD τ sig (Elt F)) (h : Pipeline.FramePostRG cfgs (dats m) 0 R0 (V m) (hbG0 m) r) (c : Dev nD) :
    r.2.mem ((c : Thread nD τ).loc main_arg3) = m ((c : Thread nD τ).loc main_arg3) :=
  ((h.toR c).1 3).trans (((dats m 0 c).arrAt_in 3 rfl _).trans ((A_eq m c 3).trans (V_main_arg3 m c)))

/-- After the frame run, argument `main_arg4` is as launched: no window stages it, and the run leaves the region's other buffers as they were (it is none of `Gen.R0`, the buffers the body itself writes). -/
theorem kept_main_arg4 (r : PUnit × MemSt nD τ sig (Elt F)) (h : Pipeline.FramePostRG cfgs (dats m) 0 R0 (V m) (hbG0 m) r) (c : Dev nD) :
    r.2.mem ((c : Thread nD τ).loc main_arg4) = m ((c : Thread nD τ).loc main_arg4) :=
  ((h.toR c).2 main_arg4 (Finset.mem_sdiff.mpr ⟨Pipeline.mem_restRefs_of main_arg4 (by decide) (by decide), by decide⟩)).trans (V_main_arg4 m c)

/-- After the frame run, argument `main_arg5` is as launched: input window 5 stages it and never writes it back. -/
theorem kept_main_arg5 (r : PUnit × MemSt nD τ sig (Elt F)) (h : Pipeline.FramePostRG cfgs (dats m) 0 R0 (V m) (hbG0 m) r) (c : Dev nD) :
    r.2.mem ((c : Thread nD τ).loc main_arg5) = m ((c : Thread nD τ).loc main_arg5) :=
  ((h.toR c).1 5).trans (((dats m 0 c).arrAt_in 5 rfl _).trans ((A_eq m c 5).trans (V_main_arg5 m c)))

/-- After the frame run, argument `main_arg6` is as launched: input window 7 stages it and never writes it back. -/
theorem kept_main_arg6 (r : PUnit × MemSt nD τ sig (Elt F)) (h : Pipeline.FramePostRG cfgs (dats m) 0 R0 (V m) (hbG0 m) r) (c : Dev nD) :
    r.2.mem ((c : Thread nD τ).loc main_arg6) = m ((c : Thread nD τ).loc main_arg6) :=
  ((h.toR c).1 7).trans (((dats m 0 c).arrAt_in 7 rfl _).trans ((A_eq m c 7).trans (V_main_arg6 m c)))

/-- After the frame run, argument `main_arg7` is as launched: no window stages it, and the run leaves the region's other buffers as they were (it is none of `Gen.R0`, the buffers the body itself writes). -/
theorem kept_main_arg7 (r : PUnit × MemSt nD τ sig (Elt F)) (h : Pipeline.FramePostRG cfgs (dats m) 0 R0 (V m) (hbG0 m) r) (c : Dev nD) :
    r.2.mem ((c : Thread nD τ).loc main_arg7) = m ((c : Thread nD τ).loc main_arg7) :=
  ((h.toR c).2 main_arg7 (Finset.mem_sdiff.mpr ⟨Pipeline.mem_restRefs_of main_arg7 (by decide) (by decide), by decide⟩)).trans (V_main_arg7 m c)

/-- After the frame run, argument `main_arg8` is as launched: no window stages it, and the run leaves the region's other buffers as they were (it is none of `Gen.R0`, the buffers the body itself writes). -/
theorem kept_main_arg8 (r : PUnit × MemSt nD τ sig (Elt F)) (h : Pipeline.FramePostRG cfgs (dats m) 0 R0 (V m) (hbG0 m) r) (c : Dev nD) :
    r.2.mem ((c : Thread nD τ).loc main_arg8) = m ((c : Thread nD τ).loc main_arg8) :=
  ((h.toR c).2 main_arg8 (Finset.mem_sdiff.mpr ⟨Pipeline.mem_restRefs_of main_arg8 (by decide) (by decide), by decide⟩)).trans (V_main_arg8 m c)

/-- After the run `main_v8_0` holds what the frame's own contents for it name. -/
theorem sent_main_v8_0 (r : PUnit × MemSt nD τ sig (Elt F)) (h : Pipeline.FramePostRG cfgs (dats m) 0 R0 (V m) (hbG0 m) r) (c : Dev nD) :
    r.2.mem ((c : Thread nD τ).loc main_v8_0) = hbG0 m c main_v8_0 :=
  h.written c (by decide : main_v8_0 ∈ R0)

/-- After the frame run, `main_v8_0`, a result left in HBM that the body's copies out of scratch write, holds what the LAST point left
    in it: `Gen.outsAt0`'s component for it there (the value post states it at `Gen.hbG0`, which `Gen.hbG0_1` unfolds). -/
theorem held_main_v8_0 (r : PUnit × MemSt nD τ sig (Elt F)) (h : Pipeline.FramePostRG cfgs (dats m) 0 R0 (V m) (hbG0 m) r) (c : Dev nD) :
    r.2.mem ((c : Thread nD τ).loc main_v8_0) = (outsAt0 m c ((Fin.last cfg0.N).val - 1) (by rw [Fin.val_last]; have : cfg0.N = 74 := N_0; omega)).2.2.2.2.2.2.2.2 := by
  rw [← hbG0_1 m c]
  exact sent_main_v8_0 m r h c

/-- The frame run with each output array after the run NAMED — `(dats m 0 c).arrAt w N`, which `blocks_w` / `entry_w` read —,
    the arguments unchanged; each result the body's copies out write at what the last point left in it. -/
theorem run_blocks : θ_run defs (onTc (τ := τ) (main (F := F))) ⟨m, fun _ => 0, ρ⟩ fun r => ∀ c : Dev nD,
      r.2.mem ((c : Thread nD τ).loc main_v8_1) = (dats m 0 c).arrAt 10 cfg0.N
      ∧ r.2.mem ((c : Thread nD τ).loc main_v8_2) = (dats m 0 c).arrAt 11 cfg0.N
      ∧ r.2.mem ((c : Thread nD τ).loc main_v8_3) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_v8_0) = (outsAt0 m c ((Fin.last cfg0.N).val - 1) (by rw [Fin.val_last]; have : cfg0.N = 74 := N_0; omega)).2.2.2.2.2.2.2.2 :=
  (θ_run defs _ _).mono (fun r h c => ⟨post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      held_main_v8_0 m r h c⟩)
    (run_main m ρ)

end Cert.KernelIdeal.Value

end
-- ==== Proof.Arrays.lean ====
module

public import proofs.«01_k».proof.Proof.State
public import proofs.«01_k».proof.Proof.KValue

@[expose] public section
set_option maxRecDepth 16384

/-! # The kernel's four results are the problem's

Each result array is put together from the blocks the steps wrote out (or sent out), so at every index it is the
problem's quantity there. -/

noncomputable section
namespace Cert.Dora
open Idealize.ShloMosaic Idealize.ShloMosaic.TcCoe Idealize.ShloMosaic.Tactic Idealize.SL.Sem
open Cert.KernelIdeal Cert.KernelIdeal.Gen

/-- The gradient of the activations, as an array. -/
def rDX (A : Arr) : Vec Ideal S1920x3584 .bf16 := fun y => A.DX (y 0) (y 1)
/-- The gradient of the first factor, transposed, as an array. -/
def rDAT (A : Arr) : Vec Ideal S64x3584 .bf16 := fun y => A.DAT (y 0) (y 1)
/-- The gradient of the second factor, as an array. -/
def rDB (A : Arr) : Vec Ideal S64x18944 .bf16 := fun y => A.DB (y 0) (y 1)
/-- The magnitude gradient, as an array. -/
def rDM (A : Arr) : Vec Ideal S1x18944 .f32 := fun y => A.DM (y 1)

variable (m : (ℓ : Loc nD τ sig) → Buf (Elt Ideal) ℓ) (c : Dev nD)

/-- The block of the transposed factor gradient is the whole array at every step. -/
theorem idx10 : ∀ t : Fin cfg0.N, win0_10.index t = ![0, 0] := by decide +kernel
/-- The block of the second factor's gradient at a step is the step's panel of columns. -/
theorem idx11 : ∀ t : Fin cfg0.N, win0_11.index t = ![0, t.val] := by decide +kernel
/-- The block of the magnitude's gradient at a step is the step's panel of columns. -/
theorem idx12 : ∀ t : Fin cfg0.N, win0_12.index t = ![0, t.val] := by decide +kernel

/-- What a step writes back of the second factor's gradient is the problem's array at the step's columns. -/
theorem fl11 (t : Fin cfg0.N) : (dats m 0 c).flushed 11 t = ((cfg0.win 11).blk t).view.read (Elt Ideal) (rDB (arr m c)) := by
  rw [Value.flushed11]
  funext y
  rw [View.read_apply]
  obtain ⟨r, l, rfl⟩ : ∃ (r : Fin 64) (l : Fin 256), y = ix2 r l := ⟨y 0, y 1, funext fun a => by fin_cases a <;> rfl⟩
  refine (db_out m c t r l).trans ?_
  show (arr m c).DB r _ = (arr m c).DB _ _
  congr 1
  · apply Fin.ext
    show r.val = win0_11.index t 0 * 64 + 1 * r.val
    rw [idx11]; show _ = 0 * 64 + 1 * r.val; omega
  · apply Fin.ext
    show 256 * t.val + l.val = win0_11.index t 1 * 256 + 1 * l.val
    rw [idx11]; show _ = t.val * 256 + 1 * l.val; omega

/-- What a step writes back of the magnitude's gradient is the problem's array at the step's columns. -/
theorem fl12 (t : Fin cfg0.N) : (dats m 0 c).flushed 12 t = ((cfg0.win 12).blk t).view.read (Elt Ideal) (rDM (arr m c)) := by
  rw [Value.flushed12]
  funext y
  rw [View.read_apply]
  obtain ⟨r, l, rfl⟩ : ∃ (r : Fin 1) (l : Fin 256), y = ix2 r l := ⟨y 0, y 1, funext fun a => by fin_cases a <;> rfl⟩
  obtain rfl : r = 0 := Fin.fin_one_eq_zero r
  refine (dm_out m c t l).trans ?_
  show (arr m c).DM _ = (arr m c).DM _
  congr 1
  apply Fin.ext
  show 256 * t.val + l.val = win0_12.index t 1 * 256 + 1 * l.val
  rw [idx12]; show _ = t.val * 256 + 1 * l.val; omega

/-- What the last step writes back of the transposed first factor's gradient is the problem's array. -/
theorem fl10 (t : Fin cfg0.N) (h1 : t.val % 74 = 73) :
    (dats m 0 c).flushed 10 t = ((cfg0.win 10).blk t).view.read (Elt Ideal) (rDAT (arr m c)) := by
  rw [Value.flushed10]
  funext y
  rw [View.read_apply]
  obtain ⟨r, i, rfl⟩ : ∃ (r : Fin 64) (i : Fin 3584), y = ix2 r i := ⟨y 0, y 1, funext fun a => by fin_cases a <;> rfl⟩
  refine (dat_out m c t h1 r i).trans ?_
  show (arr m c).DAT r _ = (arr m c).DAT _ _
  congr 1
  · apply Fin.ext
    show r.val = win0_10.index t 0 * 64 + 1 * r.val
    rw [idx10]; show _ = 0 * 64 + 1 * r.val; omega
  · apply Fin.ext
    show i.val = win0_10.index t 1 * 3584 + 1 * i.val
    rw [idx10]; show _ = 0 * 3584 + 1 * i.val; omega

/-- At the end the second factor's gradient is the problem's array: the panels cover all columns. -/
theorem arr11 : (dats m 0 c).arrAt 11 cfg0.N = rDB (arr m c) :=
  (dats m 0 c).arrAt_eq_of_cover 11 (rDB (arr m c)) (fun t _ => fl11 m c t) fun i => by
    have h0 : (i 0 : Nat) < 64 := (i 0).isLt
    have h1 : (i 1 : Nat) < 18944 := (i 1).isLt
    have hN : cfg0.N = 74 := N_0
    obtain ⟨t, ht⟩ : ∃ t : Fin cfg0.N, t.val = (i 1 : Nat) / 256 := ⟨⟨(i 1 : Nat) / 256, by omega⟩, rfl⟩
    refine ⟨t, flush0_11 _, ?_⟩
    show i ∈ ((View.whole main_v8_2).slice (win0_11.rect t)).set
    rw [View.set_slice_whole, Rect.mem_set_unit]
    intro a
    match a with
    | ⟨0, _⟩ =>
      show win0_11.index t 0 * 64 ≤ (i 0 : Nat) ∧ (i 0 : Nat) < win0_11.index t 0 * 64 + 64
      rw [idx11]; show 0 * 64 ≤ (i 0 : Nat) ∧ (i 0 : Nat) < 0 * 64 + 64; omega
    | ⟨1, _⟩ =>
      show win0_11.index t 1 * 256 ≤ (i 1 : Nat) ∧ (i 1 : Nat) < win0_11.index t 1 * 256 + 256
      rw [idx11]; show t.val * 256 ≤ (i 1 : Nat) ∧ (i 1 : Nat) < t.val * 256 + 256; omega

/-- At the end the magnitude's gradient is the problem's array: the panels cover all columns. -/
theorem arr12 : (dats m 0 c).arrAt 12 cfg0.N = rDM (arr m c) :=
  (dats m 0 c).arrAt_eq_of_cover 12 (rDM (arr m c)) (fun t _ => fl12 m c t) fun i => by
    have h0 : (i 0 : Nat) < 1 := (i 0).isLt
    have h1 : (i 1 : Nat) < 18944 := (i 1).isLt
    have hN : cfg0.N = 74 := N_0
    obtain ⟨t, ht⟩ : ∃ t : Fin cfg0.N, t.val = (i 1 : Nat) / 256 := ⟨⟨(i 1 : Nat) / 256, by omega⟩, rfl⟩
    refine ⟨t, flush0_12 _, ?_⟩
    show i ∈ ((View.whole main_v8_3).slice (win0_12.rect t)).set
    rw [View.set_slice_whole, Rect.mem_set_unit]
    intro a
    match a with
    | ⟨0, _⟩ =>
      show win0_12.index t 0 * 1 ≤ (i 0 : Nat) ∧ (i 0 : Nat) < win0_12.index t 0 * 1 + 1
      rw [idx12]; show 0 * 1 ≤ (i 0 : Nat) ∧ (i 0 : Nat) < 0 * 1 + 1; omega
    | ⟨1, _⟩ =>
      show win0_12.index t 1 * 256 ≤ (i 1 : Nat) ∧ (i 1 : Nat) < win0_12.index t 1 * 256 + 256
      rw [idx12]; show t.val * 256 ≤ (i 1 : Nat) ∧ (i 1 : Nat) < t.val * 256 + 256; omega

/-- At the end the transposed first factor's gradient is the problem's array. -/
theorem arr10 : (dats m 0 c).arrAt 10 cfg0.N = rDAT (arr m c) :=
  (dats m 0 c).arrAt_eq_of_cover 10 (rDAT (arr m c)) (fun t h => fl10 m c t ((flush0_10 t).mp h)) fun i => by
    have h0 : (i 0 : Nat) < 64 := (i 0).isLt
    have h1 : (i 1 : Nat) < 3584 := (i 1).isLt
    have hN : cfg0.N = 74 := N_0
    obtain ⟨t, ht⟩ : ∃ t : Fin cfg0.N, t.val = 73 := ⟨⟨73, by omega⟩, rfl⟩
    refine ⟨t, (flush0_10 t).mpr (by omega), ?_⟩
    show i ∈ ((View.whole main_v8_1).slice (win0_10.rect t)).set
    rw [View.set_slice_whole, Rect.mem_set_unit]
    intro a
    match a with
    | ⟨0, _⟩ =>
      show win0_10.index t 0 * 64 ≤ (i 0 : Nat) ∧ (i 0 : Nat) < win0_10.index t 0 * 64 + 64
      rw [idx10]; show 0 * 64 ≤ (i 0 : Nat) ∧ (i 0 : Nat) < 0 * 64 + 64; omega
    | ⟨1, _⟩ =>
      show win0_10.index t 1 * 3584 ≤ (i 1 : Nat) ∧ (i 1 : Nat) < win0_10.index t 1 * 3584 + 3584
      rw [idx10]; show 0 * 3584 ≤ (i 1 : Nat) ∧ (i 1 : Nat) < 0 * 3584 + 3584; omega

/-- What the last step's copy out sends is the problem's gradient of the input. -/
theorem sent (n : ℕ) (h : n < cfg0.N) (e : n = 73) : (outsAt0 m c n h).2.2.2.2.2.2.2.2 = rDX (arr m c) := by
  funext y
  obtain ⟨r, i, rfl⟩ : ∃ (r : Fin 1920) (i : Fin 3584), y = ix2 r i := ⟨y 0, y 1, funext fun a => by fin_cases a <;> rfl⟩
  exact dx_out m c ⟨n, h⟩ (show n % 74 = 73 by omega) r i

/-- The kernel run: each result is the problem's, the arguments are kept. -/
theorem kernel_run (ρ : Dev nD → PrngReg) :
    θ_run defs (onTc (τ := τ) (main (F := Ideal))) ⟨m, fun _ => 0, ρ⟩ fun r => ∀ c : Dev nD,
      r.2.mem ((c : Thread nD τ).loc main_v8_0) = rDX (arr m c)
      ∧ r.2.mem ((c : Thread nD τ).loc main_v8_1) = rDAT (arr m c)
      ∧ r.2.mem ((c : Thread nD τ).loc main_v8_2) = rDB (arr m c)
      ∧ r.2.mem ((c : Thread nD τ).loc main_v8_3) = rDM (arr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => by
    obtain ⟨h1, h2, h3, a0, a1, a2, a3, a4, a5, a6, a7, a8, h0⟩ := h c
    rw [arr10] at h1
    rw [arr11] at h2
    rw [arr12] at h3
    rw [sent m c _ _ (by rw [Fin.val_last]; have : cfg0.N = 74 := N_0; omega)] at h0
    exact ⟨h0, h1, h2, h3, a0, a1, a2, a3, a4, a5, a6, a7, a8⟩) (Value.run_blocks m ρ)

end Cert.Dora
end
-- ==== Proof.Dots.lean ====
module

public import proofs.«01_k».proof.Proof.Gen.ReferenceIdeal.Read
public import Idealize.ShloMosaic.Lib.Pointwise

@[expose] public section
set_option maxRecDepth 16384

/-! # The reference's sums over two axes, read at an index -/

noncomputable section
namespace Cert.Dora.Ref
open Idealize.ShloMosaic Idealize.ShloMosaic.TcCoe Idealize.ShloMosaic.Tactic Idealize.SL.Sem
open Cert.ReferenceIdeal Cert.ReferenceIdeal.Gen

/-- The product of activations and weight, summed over rows of a plane and over the two planes. -/
theorem dot41 (l : FVec Ideal S3x640x1792x2 .bf16) (r : FVec Ideal S2x1792x18944 .bf16) (b : Fin 3) (s : Fin 640) (o : Fin 18944) :
    Host.dotGeneral dot_S3x640x1792x2_S2x1792x18944_S3x640x18944_23_10_01_2_n_n none l r (ix3 b s o)
      = ∑ j : Fin 1792, ∑ p : Fin 2, l (ix4 b s j p) * r (ix3 p j o) := by
  pointwise
/-- The product over batch and sequence of the scaled activations and the hidden gradient. -/
theorem dot62 (l : FVec Ideal S3x640x3584 .bf16) (r : FVec Ideal S3x640x64 .bf16) (i : Fin 3584) (q : Fin 64) :
    Host.dotGeneral dot_S3x640x3584_S3x640x64_S3584x64_01_01_2_2_n_n none l r (ix2 i q)
      = ∑ b : Fin 3, ∑ s : Fin 640, l (ix3 b s i) * r (ix3 b s q) := by
  pointwise
/-- The host's sum over the first two of three axes, at an index. -/
theorem hostReduceAdd_first_two {n0 n1 n2 : ℕ} (h : (⟨3, ![n0, n1, n2]⟩ : Shape).ReducesTo [0, 1] ⟨1, ![n2]⟩)
    (v : (⟨3, ![n0, n1, n2]⟩ : Shape).Idx → EReal) (init : EReal) (o : Fin n2) :
    Ideal.hostReduceAdd h v init (ix1 o) = init + ∑ b : Fin n0, ∑ s : Fin n1, v (ix3 b s o) := by
  refine congrArg (init + ·) ?_
  refine (Finset.sum_filter_eq_sum_of_fiber _ (fun k : Fin n0 × Fin n1 => ix3 k.1 k.2 o)
    (fun _ _ e => Prod.ext (congrFun e 0) (congrFun e 1)) (fun i => ⟨fun e => ⟨(i 0, i 1), ?_⟩, ?_⟩) v).trans ?_
  · funext a; apply Fin.ext
    match a with
    | ⟨0, _⟩ => rfl
    | ⟨1, _⟩ => rfl
    | ⟨2, _⟩ => exact (congrArg Fin.val (congrFun e 0)).symm
  · rintro ⟨k, rfl⟩
    funext b; apply Fin.ext
    match b with
    | ⟨0, _⟩ => rfl
  · simp only [Fintype.sum_prod_type]
/-- The sum of a three-axis array over batch and sequence. -/
theorem red46 (l : FVec Ideal S3x640x18944 .f32) (z : FVec Ideal S_ .f32) (o : Fin 18944) :
    Host.reduceAdd l z reducesTo_S3x640x18944_S18944_d0_1 h_S_ (ix1 o)
      = z (Shape.Idx.first h_S_) + ∑ b : Fin 3, ∑ s : Fin 640, l (ix3 b s o) :=
  hostReduceAdd_first_two reducesTo_S3x640x18944_S18944_d0_1 l _ o
/-- The product of the weight and the scaled gradient over the output features, planes and rows leading. -/
theorem dot36 (l : FVec Ideal S2x1792x18944 .bf16) (r : FVec Ideal S3x640x18944 .bf16) (b : Fin 3) (s : Fin 640) (p : Fin 2) (j : Fin 1792) :
    Host.dotGeneral dot_S2x1792x18944_S3x640x18944_S2x1792x3x640_2_2_01_01_n_n none l r (ix4 p j b s)
      = ∑ o : Fin 18944, l (ix3 p j o) * r (ix3 b s o) := by
  pointwise
end Cert.Dora.Ref
end
-- ==== Proof.RefA.lean ====
module

public import proofs.«01_k».proof.Proof.Dots
public import proofs.«01_k».proof.Proof.Spec

@[expose] public section
set_option maxRecDepth 16384

/-! # The reference's weight, read at an index -/

noncomputable section
namespace Cert.Dora.Ref
open Idealize.ShloMosaic Idealize.ShloMosaic.TcCoe Idealize.ShloMosaic.Tactic Idealize.SL.Sem
open Cert.ReferenceIdeal Cert.ReferenceIdeal.Gen Cert.ReferenceIdeal.Read

/-- The feature of a nibble and a packed row. -/
def feat (p : Fin 2) (j : Fin 1792) : Fin 3584 := ⟨2 * j.val + p.val, by omega⟩
/-- The token of a batch and a position. -/
def tok (b : Fin 3) (s : Fin 640) : Fin 1920 := ⟨640 * b.val + s.val, by omega⟩

/-- A sum over the features is the sum over the packed rows and the two nibbles. -/
theorem sum_feat (f : Fin 3584 → EReal) : ∑ i, f i = ∑ j : Fin 1792, ∑ p : Fin 2, f (feat p j) := by
  rw [← Fintype.sum_prod_type' (fun j p => f (feat p j)), ← (finProdFinEquiv (m := 1792) (n := 2)).sum_comp]
  refine Finset.sum_congr rfl fun x _ => congrArg f (Fin.ext ?_)
  show x.2.val + 2 * x.1.val = 2 * x.1.val + x.2.val
  omega
/-- A sum over the tokens is the sum over the batches and the positions. -/
theorem sum_tok (f : Fin 1920 → EReal) : ∑ t, f t = ∑ b : Fin 3, ∑ s : Fin 640, f (tok b s) := by
  rw [← Fintype.sum_prod_type' (fun b s => f (tok b s)), ← (finProdFinEquiv (m := 3) (n := 640)).sum_comp]
  refine Finset.sum_congr rfl fun x _ => congrArg f (Fin.ext ?_)
  show x.2.val + 640 * x.1.val = 640 * x.1.val + x.2.val
  omega

/-- Masking a nibble and taking 8 off its flipped sign bit is shifting it up and back down. -/
theorem nib : ∀ (w : BitVec 8) (p : Fin 2),
    IntOp.subi (IntOp.xori (IntOp.andi (IntOp.shrsi ArithUnit.host (BitVec.setWidth 32 w)
      (IntOp.muli 4#32 (BitVec.ofNat 32 p.val))) 15#32) 8#32) 8#32
      = if p.val < 1 then IntOp.shrsi ArithUnit.vector (IntOp.shli ArithUnit.vector (BitVec.setWidth 32 w) 28#32) 28#32
        else IntOp.shrsi ArithUnit.vector (IntOp.shli ArithUnit.vector (BitVec.setWidth 32 w) 24#32) 28#32 := by
  decide +kernel

/-- The nibble of a feature is its parity. -/
theorem feat_mod (p : Fin 2) (j : Fin 1792) : (feat p j).val % 2 = p.val := by
  show (2 * j.val + p.val) % 2 = p.val
  omega
/-- The packed row of a feature is half its number. -/
theorem feat_div (p : Fin 2) (j : Fin 1792) : (feat p j).val / 2 = j.val := by
  show (2 * j.val + p.val) / 2 = j.val
  omega
/-- The scale group of a feature is that of its packed row. -/
theorem feat_group (p : Fin 2) (j : Fin 1792) : (feat p j).val / 128 = j.val / 64 := by
  show (2 * j.val + p.val) / 128 = j.val / 64
  omega
/-- Row `j` of plane `p` is feature `2j + p`. -/
theorem feat_eq (p : Fin 2) (j : Fin 1792) (h : j.val * 2 + p.val < 3584) : (⟨j.val * 2 + p.val, h⟩ : Fin 3584) = feat p j :=
  Fin.ext (by show j.val * 2 + p.val = 2 * j.val + p.val; omega)

/-- The reference's codes are the kernel's. -/
theorem v16_at (x3 : Vec Ideal S1792x18944 .i8) (p : Fin 2) (j : Fin 1792) (o : Fin 18944) :
    val_main_v16 (F := Ideal) x3 (ix3 p j o) = code (x3 (ix2 j o)) (feat p j).val := by
  unfold val_main_v16 val_main_v15 val_main_v13 val_main_v14 val_main_v12 val_main_v11 val_main_v10 val_main_v9 val_main_v8
    val_main_v7 val_main_v6 val_main_v5 val_main_v4 val_main_v3 val_main_v2 val_main_v1
  pointwise
  unfold code
  rw [feat_mod]
  exact congrArg _ (nib (x3 (ix2 j o)) p)

/-- The reference's adapter product. -/
theorem v24_at (x5 : Vec Ideal S3584x64 .bf16) (x6 : Vec Ideal S64x18944 .bf16) (p : Fin 2) (j : Fin 1792) (o : Fin 18944) :
    val_main_v24 (F := Ideal) x5 x6 (ix3 p j o) = ∑ r : Fin 64, x5 (ix2 (feat p j) r) * x6 (ix2 r o) := by
  unfold val_main_v24 val_main_v23 val_main_v22
  pointwise
  simp only [feat_eq]

/-- The reference's dequantized weight. -/
theorem v21_at (x3 : Vec Ideal S1792x18944 .i8) (x4 : Vec Ideal S28x18944 .bf16) (p : Fin 2) (j : Fin 1792) (o : Fin 18944) :
    val_main_v21 (F := Ideal) x3 x4 (ix3 p j o) = code (x3 (ix2 j o)) (feat p j).val * x4 (ix2 ⟨j.val / 64, by omega⟩ o) := by
  unfold val_main_v21 val_main_v20 val_main_v19 val_main_v18 val_main_v17
  generalize h : val_main_v16 (F := Ideal) x3 = y
  pointwise
  rw [← h, v16_at]

/-- The reference's effective weight is the problem's. -/
theorem v29_at (x3 : Vec Ideal S1792x18944 .i8) (x4 : Vec Ideal S28x18944 .bf16) (x5 : Vec Ideal S3584x64 .bf16) (x6 : Vec Ideal S64x18944 .bf16)
    (p : Fin 2) (j : Fin 1792) (o : Fin 18944) :
    val_main_v29 (F := Ideal) x3 x4 x5 x6 (ix3 p j o) = wval (m := 18944) x3 x4 x5 x6 (feat p j) o := by
  unfold val_main_v29 val_main_v28 val_main_v27 val_main_v26 val_main_v25
  generalize h : val_main_v24 (F := Ideal) x5 x6 = y
  generalize h' : val_main_v21 (F := Ideal) x3 x4 = y'
  pointwise
  simp only [← h, ← h', v24_at, v21_at]
  unfold wval
  simp only [feat_div, feat_group]
  rfl
end Cert.Dora.Ref
end
-- ==== Proof.RefB.lean ====
module

public import proofs.«01_k».proof.Proof.RefA

@[expose] public section
set_option maxRecDepth 16384

/-! # The reference's intermediate arrays and results, read at an index

Every value of the reference, at one index, is the problem's quantity of `Spec.lean`. The activation codes enter as
the array the reference's cast leaves. -/

noncomputable section
namespace Cert.Dora.Ref
open Idealize.ShloMosaic Idealize.ShloMosaic.TcCoe Idealize.ShloMosaic.Tactic Idealize.SL.Sem
open Cert.ReferenceIdeal Cert.ReferenceIdeal.Gen Cert.ReferenceIdeal.Read

/-- The batch of a token. -/
theorem tok_b (b : Fin 3) (s : Fin 640) (h : (tok b s).val / 640 < 3) : (⟨(tok b s).val / 640, h⟩ : Fin 3) = b :=
  Fin.ext (by show (640 * b.val + s.val) / 640 = b.val; omega)
/-- The place in the sequence of a token. -/
theorem tok_s (b : Fin 3) (s : Fin 640) (h : (tok b s).val % 640 < 640) : (⟨(tok b s).val % 640, h⟩ : Fin 640) = s :=
  Fin.ext (by show (640 * b.val + s.val) % 640 = s.val; omega)
/-- A token is that of its batch and position. -/
theorem tok_eta (t : Fin 1920) : tok ⟨t.val / 640, by omega⟩ ⟨t.val % 640, by omega⟩ = t :=
  Fin.ext (by show 640 * (t.val / 640) + t.val % 640 = t.val; omega)
/-- A feature is that of its nibble and packed row. -/
theorem feat_eta (i : Fin 3584) : feat ⟨i.val % 2, by omega⟩ ⟨i.val / 2, by omega⟩ = i :=
  Fin.ext (by show 2 * (i.val / 2) + i.val % 2 = i.val; omega)

variable (A : Arr)

/-- The sum's starting constant is zero. -/
theorem cst3_zero (i : S_.Idx) : val_main_cst_3 (F := Ideal) i = (0 : EReal) := by
  unfold val_main_cst_3
  pointwise

/-- The flattened gradient at a token is the argument at batch and sequence. -/
theorem dy_at (b : Fin 3) (s : Fin 640) (o : Fin 18944) : A.dy (tok b s) o = A.dy3 (ix3 b s o) := by
  unfold Arr.dy; rw [tok_b, tok_s]
/-- The flattened codes at a token are the argument at batch and sequence. -/
theorem X_at (b : Fin 3) (s : Fin 640) (i : Fin 3584) : A.X (tok b s) i = A.x3 (ix3 b s i) := by
  unfold Arr.X; rw [tok_b, tok_s]
/-- The flattened scales at a token are the argument at batch and sequence. -/
theorem s_at (b : Fin 3) (s : Fin 640) : A.s (tok b s) = A.s3 (ix2 b s) := by
  unfold Arr.s; rw [tok_b, tok_s]

/-- The reference's scaled gradient. -/
theorem v35_at (b : Fin 3) (s : Fin 640) (o : Fin 18944) :
    val_main_v35 (F := Ideal) A.dy3 A.mag A.cn (ix3 b s o) = A.Dyp (tok b s) o := by
  unfold val_main_v35 val_main_v34 val_main_v33 val_main_v32 val_main_v31 val_main_v30
  unfold Arr.Dyp
  rw [dy_at]
  generalize A.dy3 = x0
  generalize A.mag = x7
  generalize A.cn = x8
  pointwise

/-- The reference's first result is the gradient of the activations. -/
theorem v81_at (t : Fin 1920) (i : Fin 3584) :
    val_main_v81 (F := Ideal) A.dy3 A.pk A.sc A.a A.b A.mag A.cn (ix2 t i) = A.DX t i := by
  unfold val_main_v81 val_main_v39 val_main_v38 val_main_v37 val_main_v36
  generalize h : val_main_v29 (F := Ideal) A.pk A.sc A.a A.b = y
  generalize h' : val_main_v35 (F := Ideal) A.dy3 A.mag A.cn = y'
  pointwise
  simp only [← h, ← h', v29_at, v35_at]
  rw [tok_eta, feat_eta]
  exact Finset.sum_congr rfl fun o _ => mul_comm _ _

/-- The reference's forward product. -/
theorem v41_at (b : Fin 3) (s : Fin 640) (o : Fin 18944) :
    val_main_v41 (F := Ideal) A.pk A.sc A.a A.b A.x3 (ix3 b s o) = ∑ i : Fin 3584, A.X (tok b s) i * A.W i o := by
  unfold val_main_v41 val_main_v40
  generalize h : val_main_v29 (F := Ideal) A.pk A.sc A.a A.b = y
  rw [sum_feat]
  simp only [X_at]
  generalize A.x3 = x1
  pointwise
  simp only [← h, v29_at]
  simp only [feat_eq]
  rfl

/-- The reference's magnitude gradient. -/
theorem v47_at (o : Fin 18944) :
    val_main_v47 (F := Ideal) A.dy3 A.s3 A.pk A.sc A.a A.b A.cn A.x3 (ix1 o) = A.DM o := by
  unfold val_main_v47 val_main_v46 val_main_v45 val_main_v44 val_main_v43 val_main_v42 val_main_v30
  unfold Arr.DM
  rw [sum_tok]
  simp only [dy_at, s_at, ← v41_at]
  generalize val_main_v41 (F := Ideal) A.pk A.sc A.a A.b A.x3 = y
  generalize A.dy3 = x0
  generalize A.s3 = x2
  generalize A.cn = x8
  pointwise
  rw [hostReduceAdd_first_two, cst3_zero, zero_add]
  refine congrArg (fun z => Ideal.div z _) (Finset.sum_congr rfl fun b _ => Finset.sum_congr rfl fun s _ => ?_)
  pointwise

/-- The reference's corrected weight. -/
theorem v55_at (p : Fin 2) (j : Fin 1792) (o : Fin 18944) :
    val_main_v55 (F := Ideal) A.dy3 A.s3 A.pk A.sc A.a A.b A.mag A.cn A.x3 (ix3 p j o) = A.VC (feat p j) o := by
  unfold val_main_v55 val_main_v54 val_main_v53 val_main_v52 val_main_v51 val_main_v50 val_main_v49 val_main_v48
  have e := v47_at A o
  have e' := v29_at A.pk A.sc A.a A.b p j o
  unfold Arr.VC Arr.C Arr.W
  rw [← e, ← e']
  generalize val_main_v47 (F := Ideal) A.dy3 A.s3 A.pk A.sc A.a A.b A.cn A.x3 = y
  generalize val_main_v29 (F := Ideal) A.pk A.sc A.a A.b = y'
  generalize A.mag = x7
  generalize A.cn = x8
  pointwise

/-- The reference's hidden gradient. -/
theorem v57_at (b : Fin 3) (s : Fin 640) (r : Fin 64) :
    val_main_v57 (F := Ideal) A.dy3 A.b A.mag A.cn (ix3 b s r) = A.HT r (tok b s) := by
  unfold val_main_v57 val_main_v56
  generalize h' : val_main_v35 (F := Ideal) A.dy3 A.mag A.cn = y'
  unfold Arr.HT
  generalize A.b = x6
  pointwise
  simp only [← h', v35_at]
  exact Finset.sum_congr rfl fun o _ => mul_comm _ _

/-- The reference's scaled activations. -/
theorem v61_at (b : Fin 3) (s : Fin 640) (i : Fin 3584) :
    val_main_v61 (F := Ideal) A.s3 A.x3 (ix3 b s i) = A.X (tok b s) i * A.s (tok b s) := by
  unfold val_main_v61 val_main_v60 val_main_v59 val_main_v58
  rw [X_at, s_at]
  generalize A.x3 = x1
  generalize A.s3 = x2
  pointwise

/-- The reference's second result is the gradient of the first factor, transposed. -/
theorem v82_at (r : Fin 64) (i : Fin 3584) :
    val_main_v82 (F := Ideal) A.dy3 A.s3 A.pk A.sc A.a A.b A.mag A.cn A.x3 (ix2 r i) = A.DAT r i := by
  unfold val_main_v82 val_main_v69 val_main_v68 val_main_v67 val_main_v66 val_main_v65 val_main_v64 val_main_v63 val_main_v62
  generalize h : val_main_v55 (F := Ideal) A.dy3 A.s3 A.pk A.sc A.a A.b A.mag A.cn A.x3 = y
  generalize h1 : val_main_v57 (F := Ideal) A.dy3 A.b A.mag A.cn = y1
  generalize h2 : val_main_v61 (F := Ideal) A.s3 A.x3 = y2
  unfold Arr.DAT Arr.CORR
  generalize A.b = x6
  pointwise
  simp only [← h, ← h1, ← h2, v55_at, v57_at, v61_at]
  rw [feat_eta, sum_tok]
  simp only [mul_comm (A.HT r _)]
  rfl

/-- The reference's adapter activations. -/
theorem v74_at (b : Fin 3) (s : Fin 640) (r : Fin 64) :
    val_main_v74 (F := Ideal) A.s3 A.a A.x3 (ix3 b s r) = A.XAT r (tok b s) := by
  unfold val_main_v74 val_main_v73 val_main_v72 val_main_v71 val_main_v70
  unfold Arr.XAT
  simp only [X_at, s_at]
  generalize A.x3 = x1
  generalize A.s3 = x2
  generalize A.a = x5
  pointwise
  simp only [mul_comm (x1 _)]

/-- The first factor split into two planes of rows, read at a feature. -/
theorem v23_at (x5 : Vec Ideal S3584x64 .bf16) (p : Fin 2) (j : Fin 1792) (r : Fin 64) :
    val_main_v23 (F := Ideal) x5 (ix3 p j r) = x5 (ix2 (feat p j) r) := by
  unfold val_main_v23 val_main_v22
  pointwise
  simp only [feat_eq]

/-- The reference's third result is the gradient of the second factor. -/
theorem v80_at (r : Fin 64) (o : Fin 18944) :
    val_main_v80 (F := Ideal) A.dy3 A.s3 A.pk A.sc A.a A.b A.mag A.cn A.x3 (ix2 r o) = A.DB r o := by
  unfold val_main_v80 val_main_v79 val_main_v78 val_main_v77 val_main_v76 val_main_v75
  unfold Arr.DB
  rw [sum_tok, sum_feat]
  simp only [← v55_at, ← v35_at, ← v74_at, ← v23_at]
  generalize h : val_main_v55 (F := Ideal) A.dy3 A.s3 A.pk A.sc A.a A.b A.mag A.cn A.x3 = y
  generalize h1 : val_main_v35 (F := Ideal) A.dy3 A.mag A.cn = y1
  generalize h2 : val_main_v74 (F := Ideal) A.s3 A.a A.x3 = y2
  generalize h3 : val_main_v23 (F := Ideal) A.a = y3
  pointwise
  rfl

/-- The reference's fourth result is the magnitude gradient. -/
theorem v83_at (z : Fin 1) (o : Fin 18944) :
    val_main_v83 (F := Ideal) A.dy3 A.s3 A.pk A.sc A.a A.b A.cn A.x3 (ix2 z o) = A.DM o := by
  unfold val_main_v83
  rw [← v47_at]
  generalize val_main_v47 (F := Ideal) A.dy3 A.s3 A.pk A.sc A.a A.b A.cn A.x3 = y
  pointwise
end Cert.Dora.Ref
end
-- ==== Proof.RefRun.lean ====
module

public import proofs.«01_k».proof.Proof.RefB
public import proofs.«01_k».proof.Proof.Arrays
public import proofs.«01_k».proof.Proof.Gen.ReferenceIdeal.Run

@[expose] public section
set_option maxRecDepth 16384

/-! # The reference's run

The reference's cast leaves the activation codes as they are (a format change is the identity over extended reals), and
each result of the reference is the problem's array of `Arrays.lean` at the reference's arguments. -/

noncomputable section
namespace Cert.Dora.Ref
open Idealize.ShloMosaic Idealize.ShloMosaic.TcCoe Idealize.ShloMosaic.Tactic Idealize.SL.Sem
open Cert.ReferenceIdeal Cert.ReferenceIdeal.Gen Cert.ReferenceIdeal.Value Cert.ReferenceIdeal.Read

variable (m : (ℓ : Loc nD τ sig) → Buf (Elt Ideal) ℓ) (c : Dev nD)

/-- The reference's nine arguments. -/
def arr : Arr where
  dy3 := m ((c.tc : Thread nD τ).loc main_arg0)
  x3 := m ((c.tc : Thread nD τ).loc main_arg1)
  s3 := m ((c.tc : Thread nD τ).loc main_arg2)
  pk := m ((c.tc : Thread nD τ).loc main_arg3)
  sc := m ((c.tc : Thread nD τ).loc main_arg4)
  a := m ((c.tc : Thread nD τ).loc main_arg5)
  b := m ((c.tc : Thread nD τ).loc main_arg6)
  mag := m ((c.tc : Thread nD τ).loc main_arg7)
  cn := m ((c.tc : Thread nD τ).loc main_arg8)

/-- The array the cast leaves. -/
def codes (x : Vec Ideal S3x640x3584 .fp8e4m3) : Vec Ideal S3x640x3584 .bf16 := fun y => x y

/-- The offset of a whole three-axis block. -/
theorem zero3 : (![0, 0, 0] : Fin 3 → Nat) = fun _ => 0 := by
  funext a; fin_cases a <;> rfl

/-- The cast's body leaves its block's elements. -/
theorem out_codes (x : Vec Ideal S3x640x3584 .fp8e4m3) : out0_1 x = codes x := by
  unfold out0_1 r0_0
  rw [View.canon_unit_zero (S := S3x640x3584) zero3, View.ld_unit_zero (S := S3x640x3584) zero3]
  rfl

/-- The cast's one block is the whole array of codes. -/
theorem blk_codes (t : Fin cfg0.N) : iblk m c 0 t = (arr m c).x3 := by
  unfold iblk
  funext y
  rw [View.read_apply]
  show V m c main_arg1 _ = _
  rw [V_main_arg1]
  unfold arr
  dsimp only
  congr 1
  funext a
  apply Fin.ext
  match a with
  | ⟨0, _⟩ => show 0 * 3 + 1 * (y 0).val = (y 0).val; omega
  | ⟨1, _⟩ => show 0 * 640 + 1 * (y 1).val = (y 1).val; omega
  | ⟨2, _⟩ => show 0 * 3584 + 1 * (y 2).val = (y 2).val; omega

/-- What the cast writes back is the codes. -/
theorem fl1 (t : Fin cfg0.N) : (dats m 0 c).flushed 1 t = ((cfg0.win 1).blk t).view.read (Elt Ideal) (codes (arr m c).x3) := by
  show (cfg0.win 1).cut (grid0.coords t) ((dats m 0 c).after 1 t) = _
  rw [after0_1, blk_codes, out_codes]
  funext y
  rw [View.read_apply]
  show codes (arr m c).x3 y = codes (arr m c).x3 _
  congr 1
  funext a
  apply Fin.ext
  match a with
  | ⟨0, _⟩ => show (y 0).val = 0 * 3 + 1 * (y 0).val; omega
  | ⟨1, _⟩ => show (y 1).val = 0 * 640 + 1 * (y 1).val; omega
  | ⟨2, _⟩ => show (y 2).val = 0 * 3584 + 1 * (y 2).val; omega

/-- The cast leaves the activation codes. -/
theorem reg_codes : reg_main_v0 m c = codes (arr m c).x3 := by
  unfold reg_main_v0
  refine (dats m 0 c).arrAt_eq_of_cover 1 (codes (arr m c).x3) (fun t _ => fl1 m c t) fun i => ?_
  have h0 : (i 0 : Nat) < 3 := (i 0).isLt
  have h1 : (i 1 : Nat) < 640 := (i 1).isLt
  have h2 : (i 2 : Nat) < 3584 := (i 2).isLt
  obtain ⟨t, ht⟩ : ∃ t : Fin cfg0.N, t.val = 0 := ⟨⟨0, by decide⟩, rfl⟩
  refine ⟨t, flush0_1 _, ?_⟩
  show i ∈ ((View.whole main_v0).slice (win0_1.rect t)).set
  rw [View.set_slice_whole, Rect.mem_set_unit]
  intro a
  match a with
  | ⟨0, _⟩ => show 0 * 3 ≤ (i 0 : Nat) ∧ (i 0 : Nat) < 0 * 3 + 3; omega
  | ⟨1, _⟩ => show 0 * 640 ≤ (i 1 : Nat) ∧ (i 1 : Nat) < 0 * 640 + 640; omega
  | ⟨2, _⟩ => show 0 * 3584 ≤ (i 2 : Nat) ∧ (i 2 : Nat) < 0 * 3584 + 3584; omega

/-- The reference's gradient of the input is the problem's. -/
theorem res_dx : val_main_v81 (F := Ideal) (exitV m c (Proc.devRef .tc main_arg0)) (exitV m c (Proc.devRef .tc main_arg3))
    (exitV m c (Proc.devRef .tc main_arg4)) (exitV m c (Proc.devRef .tc main_arg5)) (exitV m c (Proc.devRef .tc main_arg6))
    (exitV m c (Proc.devRef .tc main_arg7)) (exitV m c (Proc.devRef .tc main_arg8)) = rDX (arr m c) := by
  rw [exit_main_arg0, exit_main_arg3, exit_main_arg4, exit_main_arg5, exit_main_arg6, exit_main_arg7, exit_main_arg8]
  funext y
  obtain ⟨r, i, rfl⟩ : ∃ (r : Fin 1920) (i : Fin 3584), y = ix2 r i := ⟨y 0, y 1, funext fun a => by fin_cases a <;> rfl⟩
  exact v81_at (arr m c) r i

/-- The reference's gradient of the first factor, transposed, is the problem's. -/
theorem res_dat : val_main_v82 (F := Ideal) (exitV m c (Proc.devRef .tc main_arg0)) (exitV m c (Proc.devRef .tc main_arg2))
    (exitV m c (Proc.devRef .tc main_arg3)) (exitV m c (Proc.devRef .tc main_arg4)) (exitV m c (Proc.devRef .tc main_arg5))
    (exitV m c (Proc.devRef .tc main_arg6)) (exitV m c (Proc.devRef .tc main_arg7)) (exitV m c (Proc.devRef .tc main_arg8))
    (exitV m c (Proc.devRef .tc main_v0)) = rDAT (arr m c) := by
  rw [exit_main_arg0, exit_main_arg2, exit_main_arg3, exit_main_arg4, exit_main_arg5, exit_main_arg6, exit_main_arg7,
    exit_main_arg8, exit_main_v0, reg_codes]
  funext y
  obtain ⟨r, i, rfl⟩ : ∃ (r : Fin 64) (i : Fin 3584), y = ix2 r i := ⟨y 0, y 1, funext fun a => by fin_cases a <;> rfl⟩
  exact v82_at (arr m c) r i

/-- The reference's gradient of the second factor is the problem's. -/
theorem res_db : val_main_v80 (F := Ideal) (exitV m c (Proc.devRef .tc main_arg0)) (exitV m c (Proc.devRef .tc main_arg2))
    (exitV m c (Proc.devRef .tc main_arg3)) (exitV m c (Proc.devRef .tc main_arg4)) (exitV m c (Proc.devRef .tc main_arg5))
    (exitV m c (Proc.devRef .tc main_arg6)) (exitV m c (Proc.devRef .tc main_arg7)) (exitV m c (Proc.devRef .tc main_arg8))
    (exitV m c (Proc.devRef .tc main_v0)) = rDB (arr m c) := by
  rw [exit_main_arg0, exit_main_arg2, exit_main_arg3, exit_main_arg4, exit_main_arg5, exit_main_arg6, exit_main_arg7,
    exit_main_arg8, exit_main_v0, reg_codes]
  funext y
  obtain ⟨r, i, rfl⟩ : ∃ (r : Fin 64) (i : Fin 18944), y = ix2 r i := ⟨y 0, y 1, funext fun a => by fin_cases a <;> rfl⟩
  exact v80_at (arr m c) r i

/-- The reference's gradient of the magnitude is the problem's. -/
theorem res_dm : val_main_v83 (F := Ideal) (exitV m c (Proc.devRef .tc main_arg0)) (exitV m c (Proc.devRef .tc main_arg2))
    (exitV m c (Proc.devRef .tc main_arg3)) (exitV m c (Proc.devRef .tc main_arg4)) (exitV m c (Proc.devRef .tc main_arg5))
    (exitV m c (Proc.devRef .tc main_arg6)) (exitV m c (Proc.devRef .tc main_arg8))
    (exitV m c (Proc.devRef .tc main_v0)) = rDM (arr m c) := by
  rw [exit_main_arg0, exit_main_arg2, exit_main_arg3, exit_main_arg4, exit_main_arg5, exit_main_arg6,
    exit_main_arg8, exit_main_v0, reg_codes]
  funext y
  obtain ⟨r, i, rfl⟩ : ∃ (r : Fin 1) (i : Fin 18944), y = ix2 r i := ⟨y 0, y 1, funext fun a => by fin_cases a <;> rfl⟩
  exact v83_at (arr m c) r i

/-- The reference's run: each result is the problem's array, the arguments are kept. -/
theorem ref_run (ρ : Dev nD → PrngReg) :
    θ_run defs (onTc (τ := τ) (main (F := Ideal))) ⟨m, fun _ => 0, ρ⟩ fun r => ∀ c : Dev nD,
      r.2.mem ((c.tc : Thread nD τ).loc main_v81) = rDX (arr m c)
      ∧ r.2.mem ((c.tc : Thread nD τ).loc main_v82) = rDAT (arr m c)
      ∧ r.2.mem ((c.tc : Thread nD τ).loc main_v80) = rDB (arr m c)
      ∧ r.2.mem ((c.tc : Thread nD τ).loc main_v83) = rDM (arr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => by
    obtain ⟨h0, h1, h2, h3, k⟩ := h c
    exact ⟨h0.trans ((Read.val_main_v81_eq (exitV m c)).trans (res_dx m c)),
      h1.trans ((Read.val_main_v82_eq (exitV m c)).trans (res_dat m c)),
      h2.trans ((Read.val_main_v80_eq (exitV m c)).trans (res_db m c)),
      h3.trans ((Read.val_main_v83_eq (exitV m c)).trans (res_dm m c)), k⟩) (Value.run m ρ)

end Cert.Dora.Ref
end
-- ==== Proof.lean ====
/- Assembles `Cert.Claim` from the programs' runs. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelFrame
public import proofs.«01_k».proof.Proof.Arrays
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- From memories that agree on the nine arguments, the kernel and the reference end with the same four
    arrays: each is the array of the problem, read off the arguments. -/
theorem algebraic : Cert.algebraic_KernelIdeal_ReferenceIdeal := by
  intro m g m' g' _ hargs
  have hsame : ∀ c, Cert.Dora.Ref.arr m' c = Cert.Dora.arr m c := by
    intro c
    obtain ⟨h0, h1, h2, h3, h4, h5, h6, h7, h8⟩ := hargs c
    unfold Cert.Dora.Ref.arr Cert.Dora.arr
    rw [h0, h1, h2, h3, h4, h5, h6, h7, h8]
  refine ⟨fun c => Cert.Dora.rDX (Cert.Dora.arr m c), fun c => Cert.Dora.rDAT (Cert.Dora.arr m c),
    fun c => Cert.Dora.rDB (Cert.Dora.arr m c), fun c => Cert.Dora.rDM (Cert.Dora.arr m c),
    Cert.Dora.kernel_run m g, ?_⟩
  refine (θ_run _ _ _).mono (fun r h c => ?_) (Cert.Dora.Ref.ref_run m' g')
  have hc := h c
  rw [hsame c] at hc
  exact hc

/-- Everything the directory claims. -/
theorem claim : Cert.Claim := ⟨Cert.Kernel.Gen.facts, Cert.KernelIdeal.Gen.facts, Cert.ReferenceIdeal.Gen.facts,
  Cert.Dora.kernel_frame, fun m ρ _ => Cert.KernelIdeal.Gen.frame m ρ,
  fun m ρ _ => Cert.ReferenceIdeal.Gen.frame m ρ, trivial, algebraic⟩

end Cert.Proof

end
